-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x2048x768 : Shape := ⟨3, ![1, 2048, 768]⟩
abbrev S8x768 : Shape := ⟨2, ![8, 768]⟩
abbrev S8 : Shape := ⟨1, ![8]⟩
abbrev S8x768x768 : Shape := ⟨3, ![8, 768, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x768 .f32) (main_arg1 : FVec F S8x768 .f32) (main_arg2 : FVec F S8 .f32) (main_arg3 : FVec F S8x768x768 .f32) (main_arg4 : FVec F S8x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S1x2048x768 : Shape := ⟨3, ![1, 2048, 768]⟩
abbrev S8x768 : Shape := ⟨2, ![8, 768]⟩
abbrev S8 : Shape := ⟨1, ![8]⟩
abbrev S8x768x768 : Shape := ⟨3, ![8, 768, 768]⟩
abbrev S2048x768 : Shape := ⟨2, ![2048, 768]⟩
abbrev S8x1 : Shape := ⟨2, ![8, 1]⟩
abbrev S1x1 : Shape := ⟨2, ![1, 1]⟩
abbrev S1024x768 : Shape := ⟨2, ![1024, 768]⟩
abbrev S8x128 : Shape := ⟨2, ![8, 128]⟩
abbrev S1 : Shape := ⟨1, ![1]⟩
abbrev S_ : Shape := ⟨0, ![]⟩
abbrev S1x768x768 : Shape := ⟨3, ![1, 768, 768]⟩
abbrev S768x768 : Shape := ⟨2, ![768, 768]⟩
abbrev S8x1024 : Shape := ⟨2, ![8, 1024]⟩
abbrev S1024 : Shape := ⟨1, ![1024]⟩
abbrev S1x1024 : Shape := ⟨2, ![1, 1024]⟩
abbrev S1x8x1024 : Shape := ⟨3, ![1, 8, 1024]⟩
abbrev S1x1x1 : Shape := ⟨3, ![1, 1, 1]⟩
abbrev S1024x8 : Shape := ⟨2, ![1024, 8]⟩
abbrev S1024x1 : Shape := ⟨2, ![1024, 1]⟩
abbrev S1x8x1 : Shape := ⟨3, ![1, 8, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S2048x768, .f32⟩
  | .hbm, ⟨6, _⟩ => ⟨S8x1, .f32⟩
  | .hbm, ⟨7, _⟩ => ⟨S2048x768, .f32⟩
  | .hbm, ⟨8, _⟩ => ⟨S1x1, .f32⟩
  | .hbm, ⟨9, _⟩ => ⟨S1x2048x768, .f32⟩
  | .hbm, ⟨10, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S8x768, .f32⟩
  | .local _ .vmem, ⟨3, _⟩ => ⟨S8x1, .f32⟩
  | .local _ .vmem, ⟨4, _⟩ => ⟨S8x768, .f32⟩
  | .local _ .vmem, ⟨5, _⟩ => ⟨S1024x768, .f32⟩
  | .local _ .vmem, ⟨6, _⟩ => ⟨S1024x768, .f32⟩
  | .local _ .vmem, ⟨7, _⟩ => ⟨S1x1, .f32⟩
  | .local _ .vmem, ⟨8, _⟩ => ⟨S8x768x768, .f32⟩
  | .local _ .vmem, ⟨9, _⟩ => ⟨S8x128, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![2], ![false]⟩

def k0_cond7 (i : grid0.Coords) : BitVec 1 :=
  let arg0 : BitVec 32 := BitVec.ofNat 32 (i 0).val
  let c1_i32_67 : BitVec 32 := 1#32
  let v158 : BitVec 1 := Scalar.cmpi .eq arg0 c1_i32_67
  let v159 : BitVec 32 := Scalar.extui v158
  let c0_i32_68 : BitVec 32 := 0#32
  let v160 : BitVec 1 := Scalar.cmpi .ne v159 c0_i32_68
  v160

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x2048x768 : Shape := ⟨3, ![1, 2048, 768]⟩
abbrev S8x768 : Shape := ⟨2, ![8, 768]⟩
abbrev S8 : Shape := ⟨1, ![8]⟩
abbrev S8x768x768 : Shape := ⟨3, ![8, 768, 768]⟩
abbrev S2048x768 : Shape := ⟨2, ![2048, 768]⟩
abbrev S768x8 : Shape := ⟨2, ![768, 8]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x8x768 : Shape := ⟨3, ![2048, 8, 768]⟩
abbrev S1x8x768 : Shape := ⟨3, ![1, 8, 768]⟩
abbrev S2048x8x1 : Shape := ⟨3, ![2048, 8, 1]⟩

abbrev nBuf : Space → Nat
  | .hbm => 97
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S2048x768, .f32⟩
  | .hbm, ⟨6, _⟩ => ⟨S768x8, .f32⟩
  | .hbm, ⟨7, _⟩ => ⟨S2048x8, .f32⟩
  | .hbm, ⟨8, _⟩ => ⟨S1x8, .f32⟩
  | .hbm, ⟨9, _⟩ => ⟨S2048x8, .f32⟩
  | .hbm, ⟨10, _⟩ => ⟨S2048x8, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048x1, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048x2, .f32⟩
  | .hbm, ⟨40, _⟩ => ⟨S2048x2, .i32⟩
  | .hbm, ⟨41, _⟩ => ⟨S_, .f32⟩
  | .hbm, ⟨42, _⟩ => ⟨S2048x8, .f32⟩
  | .hbm, ⟨43, _⟩ => ⟨S_, .f32⟩
  | .hbm, ⟨44, _⟩ => ⟨S8, .f32⟩
  | .hbm, ⟨45, _⟩ => ⟨S2048x1, .i32⟩
  | .hbm, ⟨46, _⟩ => ⟨S2048, .i32⟩
  | .hbm, ⟨47, _⟩ => ⟨S2048x1, .i32⟩
  | .hbm, ⟨48, _⟩ => ⟨S1x8, .i32⟩
  | .hbm, ⟨49, _⟩ => ⟨S2048x8, .i32⟩
  | .hbm, ⟨50, _⟩ => ⟨S2048x8, .i32⟩
  | .hbm, ⟨51, _⟩ => ⟨S2048x8, .i1⟩
  | .hbm, ⟨52, _⟩ => ⟨S2048x8, .f32⟩
  | .hbm, ⟨53, _⟩ => ⟨S2048x1, .f32⟩
  | .hbm, ⟨54, _⟩ => ⟨S2048x8, .f32⟩
  | .hbm, ⟨55, _⟩ => ⟨S2048x8, .f32⟩
  | .hbm, ⟨56, _⟩ => ⟨S2048x8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S2048x1, .i32⟩
  | .hbm, ⟨61, _⟩ => ⟨S2048, .i32⟩
  | .hbm, ⟨62, _⟩ => ⟨S2048x1, .i32⟩
  | .hbm, ⟨63, _⟩ => ⟨S1x8, .i32⟩
  | .hbm, ⟨64, _⟩ => ⟨S2048x8, .i32⟩
  | .hbm, ⟨65, _⟩ => ⟨S2048x8, .i32⟩
  | .hbm, ⟨66, _⟩ => ⟨S2048x8, .i1⟩
  | .hbm, ⟨67, _⟩ => ⟨S2048x8, .f32⟩
  | .hbm, ⟨68, _⟩ => ⟨S2048x1, .f32⟩
  | .hbm, ⟨69, _⟩ => ⟨S2048x8, .f32⟩
  | .hbm, ⟨70, _⟩ => ⟨S2048x8, .f32⟩
  | .hbm, ⟨71, _⟩ => ⟨S2048x8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S2048x8x768, .f32⟩
  | .hbm, ⟨76, _⟩ => ⟨S1x8x768, .f32⟩
  | .hbm, ⟨77, _⟩ => ⟨S2048x8x768, .f32⟩
  | .hbm, ⟨78, _⟩ => ⟨S2048x8x768, .f32⟩
  | .hbm, ⟨79, _⟩ => ⟨S2048x8x1, .f32⟩
  | .hbm, ⟨80, _⟩ => ⟨S2048x8x768, .f32⟩
  | .hbm, ⟨81, _⟩ => ⟨S2048x8x768, .f32⟩
  | .hbm, ⟨82, _⟩ => ⟨S_, .f32⟩
  | .hbm, ⟨83, _⟩ => ⟨S2048x768, .f32⟩
  | .hbm, ⟨84, _⟩ => ⟨S_, .f32⟩
  | .hbm, ⟨85, _⟩ => ⟨S8, .f32⟩
  | .hbm, ⟨86, _⟩ => ⟨S8, .f32⟩
  | .hbm, ⟨87, _⟩ => ⟨S_, .f32⟩
  | .hbm, ⟨88, _⟩ => ⟨S8, .f32⟩
  | .hbm, ⟨89, _⟩ => ⟨S8, .f32⟩
  | .hbm, ⟨90, _⟩ => ⟨S_, .f32⟩
  | .hbm, ⟨91, _⟩ => ⟨S8, .f32⟩
  | .hbm, ⟨92, _⟩ => ⟨S8, .f32⟩
  | .hbm, ⟨93, _⟩ => ⟨S_, .f32⟩
  | .hbm, ⟨94, _⟩ => ⟨S_, .f32⟩
  | .hbm, ⟨95, _⟩ => ⟨S1x2048x768, .f32⟩
  | .hbm, ⟨96, _⟩ => ⟨S_, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_values : Ref sig .tc := ⟨.hbm, 39, rfl⟩
abbrev main_indices : Ref sig .tc := ⟨.hbm, 40, rfl⟩
abbrev main_cst_7 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_call2_cst : Ref sig .tc := ⟨.hbm, 90, rfl⟩
abbrev main_call2_v0 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Proof.Slab.lean ====
module

public import Idealize.ShloMosaic.Lib.Claim
public import Idealize.ShloMosaic.Lib.VecWindow

@[expose] public section

/-! Reading a whole buffer after its eight leading slabs have been copied from another buffer of the same shape. -/

namespace Cert.Slab

open Idealize.ShloMosaic

variable {sig : RefSig} {κ : Kind} {sp sp' : Space} {s s' : Shape} {e : EltTy} {Val : EltTy → Type}

/-- After a copy of one rectangle of `N` into the same rectangle of `M` (both behind the same squeeze), `M` reads what `N`
reads inside the rectangle and what it read before outside of it. -/
theorem read_copy (M : Memref sig κ sp s e) (N : Memref sig κ sp' s e) (r : Rect s) (hr hr' : ∀ a, r.stride a = 1)
    (hq hq' : r.shape.Squeezes s') (f : M.view.ty.Contents Val) (g : N.view.ty.Contents Val) (y : s.Idx) [Decidable (y ∈ r.set)] :
    M.view.read Val (((M.slice r hr).squeeze s' hq).view.write Val f
        (((N.slice r hr').squeeze s' hq').view.read Val g) Finset.univ) y
      = if y ∈ r.set then N.view.read Val g y else M.view.read Val f y := by
  have hw : ((M.slice r hr).squeeze s' hq).view.write Val f (((N.slice r hr').squeeze s' hq').view.read Val g) Finset.univ
      = (M.view.slice r).write Val f ((N.view.slice r).read Val g) Finset.univ := by
    refine (View.write_reshape_univ (v := M.view.slice r) _ f _).trans ?_
    congr 1
    funext x
    show (N.view.slice r).read Val g (Shape.reshapeEquiv _ ((Shape.reshapeEquiv _).symm x)) = _
    rw [Equiv.apply_symm_apply]
  rw [hw]
  split
  · next h =>
    rw [← Rect.map_emb_univ, Finset.mem_map] at h
    obtain ⟨x, -, rfl⟩ := h
    rw [View.read_slice_write_emb r f _ (Finset.mem_univ x)]
    rfl
  · next h =>
    exact View.read_slice_write_of_not_mem _ _ _ _ (by rwa [Rect.map_emb_univ])

/-- A load of the whole extent of a view reads the view. -/
theorem readAt_whole (v : View sig κ sp s e) {off : Fin s.rank → ℕ} (inb : ∀ a, off a + s.size a ≤ s.size a) (f : v.ty.Contents Val) :
    v.readAt Val (Rect.unit off s.size inb).toLoadRect f = v.read Val f := by
  funext x
  refine congrArg (v.read Val f) (funext fun a => Fin.ext ?_)
  have := inb a
  show off a + 1 * (x a).val = (x a).val
  omega

end Cert.Slab

end
-- ==== Proof.KernelIdeal.Setup.lean ====
/- The launch of the kernel at the algebra of a body with copies of its own, the conditions of the body's branches, the
   points where the second result's window is idle, and the names the runs of the body share. -/
module

public import proofs.«01_k».proof.Proof.Gen.KernelIdeal.Skeleton
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's beside the counters of the body's own copies. -/
local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- @main is the host line block before the region, the region, and the block after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer no later line writes and no window stages ends as the region found it. -/
theorem tail_keeps (dats : (p : Fin _) → (c : Dev nD) → Dat τ (Elt F) Unit ℕ (Pipeline.UD sig nD τ) ℕ (cfgs p) c) (c : Dev nD) (b : Ref sig .tc)
    (hw : (List.flatten [hostOps1 (F := F)]).Forall fun op => Proc.devRef .tc b ∉ op.writes) (hn : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp hw),
    Pipeline.withArrays_of_ne _ c (V0 m c) _ b hn]

/-- `main_arg0` ends as launched. -/
theorem tail_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) :=
  (tail_keeps m dats c main_arg0 (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide)) (by decide)).trans (V_main_arg0 m c)
/-- `main_arg2` ends as launched. -/
theorem tail_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) :=
  (tail_keeps m dats c main_arg2 (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide)) (by decide)).trans (V_main_arg2 m c)
/-- `main_arg3` ends as launched. -/
theorem tail_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) :=
  (tail_keeps m dats c main_arg3 (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide)) (by decide)).trans (V_main_arg3 m c)

/-! ## The inputs' staging buffers -/

/-- Input window 0's staging buffer holds its block at every point. -/
theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from a run to the pipeline's post. -/
theorem frame_from (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (tail_arg0 m dats c)),
      ((h c).1 1).trans (((dats 0 c).arrAt_in 1 rfl _).trans ((hA c 1).trans (V_main_arg1 m c))),
      (((h c).2 main_arg2 (Pipeline.mem_restRefs_of main_arg2 (by decide) (by decide))).trans (tail_arg2 m dats c)),
      (((h c).2 main_arg3 (Pipeline.mem_restRefs_of main_arg3 (by decide) (by decide))).trans (tail_arg3 m dats c)),
      ((h c).1 3).trans (((dats 0 c).arrAt_in 3 rfl _).trans ((hA c 3).trans (V_main_arg4 m c)))⟩) h

/-! ## The body's branch conditions -/

/-- The condition of every `scf.if` of the body but the last: the point is the first. -/
abbrev first (i : grid0.Coords) : Prop := (Scalar.cmpi .ne (Scalar.extui (Scalar.cmpi .eq (BitVec.ofNat 32 (i 0).val) 0#32)) 0#32) = 1#1
theorem first_iff : ∀ t : Fin cfg0.N, first (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [first, e0]
    word_cmp
   : ∀ t : Fin grid0.N, first (grid0.coords t) ↔ t.val % 2 = 0)

/-- The condition of the last `scf.if`: the point is the last. -/
abbrev last (i : grid0.Coords) : Prop := k0_cond7 i = 1#1
theorem last_iff : ∀ t : Fin cfg0.N, last (grid0.coords t) ↔ t.val % 2 = 1 :=
  (fun t => by
    have ht : t.val < 2 := Nat.lt_of_lt_of_eq t.isLt N_0
    have e0 : (grid0.coords t 0).val = t.val / 1 % 2 := Pipeline.Grid.coords_val t 0 (by decide) rfl
    simp only [last, k0_cond7, e0]
    word_cmp
   : ∀ t : Fin grid0.N, last (grid0.coords t) ↔ t.val % 2 = 1)

/-! ## Where the second result's window is idle -/

/-- At the first point it is idle, -/
theorem idle_first : ∀ t : Fin cfg0.N, first (grid0.coords t) → ¬last (grid0.coords t) → cfg0.idle 5 (grid0.coords t) = true := by decide +kernel
/-- and its block is not written back there. -/
theorem noFlush_first : ∀ t : Fin cfg0.N, first (grid0.coords t) → ¬last (grid0.coords t) → (cfg0.win 5).flush t = false := by decide +kernel
/-- At the last point it is not idle. -/
theorem live_last : ∀ t : Fin cfg0.N, ¬first (grid0.coords t) → last (grid0.coords t) → cfg0.idle 5 (grid0.coords t) = false := by decide +kernel

/-! ## The body's operands -/

abbrev ms_0 (t : Fin cfg0.N) : Memref sig .tc .vmem S1024x768 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x768 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x1 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x768 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1024x768 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x1 .f32 := win0_5.stage (cfg0.slots t 5)
abbrev hs_5 (t : Fin cfg0.N) : (ms_5 t).IsWhole := hstage0_5 ((cfg0.slots t 5).cast nbuf0_5)
/-- The scratch that receives the experts' weights, and the one that accumulates the router's statistics. -/
abbrev wbuf : Memref sig .tc .vmem S8x768x768 .f32 := Memref.whole cc0_scratch0
abbrev stat : Memref sig .tc .vmem S8x128 .f32 := Memref.whole cc0_scratch1
/-- The experts' weights, left in HBM. -/
abbrev hbw : Memref sig .tc .hbm S8x768x768 .f32 := Memref.whole main_arg3
/-- A memref's buffer on a core, and that buffer held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The eight semaphores of the copies. -/
abbrev osem0 : Fin 8 → SemLoc sig := fun j => (![SemLoc.dma 8, SemLoc.dma 9, SemLoc.dma 10, SemLoc.dma 11, SemLoc.dma 12, SemLoc.dma 13, SemLoc.dma 14, SemLoc.dma 15] : Fin 8 → SemLoc sig) j
theorem ownSemFacts0 : Pipeline.OwnSemFacts spec0 osem0 := by decide
/-- The eight semaphores at zero. -/
abbrev semsZero (c : Dev nD) : sProp 𝕄 :=
  iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
/-- The launch's listing of them. -/
theorem ownSems00_eq (c : Dev nD) :
    (Pipeline.ownSems0 (Ix := Unit) (Name := ℕ) (U := Pipeline.UD sig nD τ) (Lvl := ℕ) (Val := Elt F) (τ := τ) osem0 c : sProp 𝕄)
      = semsZero c := by
  rw [Pipeline.ownSems0_eq_of_list c osem0 [0, 1, 2, 3, 4, 5, 6, 7] (by decide) (by decide)]; rfl
/-- The operands the body moves itself. -/
def H0 : Finset (Ref sig .tc) := {main_arg3}
theorem H0_sub : H0 ⊆ Pipeline.restRefs sig spec0 := by decide
/-- No line after the region touches them. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They are held whole at the contents they were launched with. -/
theorem hbmPts0_eq (c : Dev nD) :
    (bigSep H0 (fun b => ((c : Thread nD τ).loc b) ↦{fullShare} V m c b) : sProp 𝕄) = iprop(hbPt0 c hbw (V m c main_arg3)) := by
  rw [BI.bigSep_eq_bigSepL_of_eq [main_arg3] (by decide) (by decide)]; rfl

/-- The region's invariant at its entry, conjunct by conjunct. -/
theorem PhiD0_eq (c : Dev nD) :
    (Pipeline.ΦD osem0 spec0 H0 (V m) c : sProp 𝕄)
      = iprop(iprop((∃ d, owns (c : Thread nD τ) wbuf fullShare d) ∗ (∃ d, owns (c : Thread nD τ) stat fullShare d)) ∗ (∃ r, prngReg c r) ∗ semsZero c ∗ iprop(hbPt0 c hbw (V m c main_arg3))) := by
  rw [Pipeline.ΦD_eq, scopedRest0_eq, ownSems00_eq, hbmPts0_eq]; simp only [wbuf, stat, owns_whole]; try rfl

end Cert.KernelIdeal.Hand

end
-- ==== Proof.KernelIdeal.Values.lean ====
/- What the body computes at a grid point, as functions of the contents it reads: the routing weights, the tile of the first
   result and the running statistics; and what the expert weights' scratch holds once its eight copies have landed. -/
module

public import proofs.«01_k».proof.Proof.KernelIdeal.Setup
public import proofs.«01_k».proof.Proof.Slab
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Slab 0 of the expert weights `w`: one expert's matrix. -/
def slab0 (w : Vec F S8x768x768 .f32) : Vec F S1x768x768 .f32 :=
  fun x => w ((Rect.unit (s := S8x768x768) ![0, 0, 0] S1x768x768.size inb_S8x768x768_S1x768x768_0_0_0).toLoadRect.idx x)

/-- Slab 1 of the expert weights `w`: one expert's matrix. -/
def slab1 (w : Vec F S8x768x768 .f32) : Vec F S1x768x768 .f32 :=
  fun x => w ((Rect.unit (s := S8x768x768) ![1, 0, 0] S1x768x768.size inb_S8x768x768_S1x768x768_1_0_0).toLoadRect.idx x)

/-- Slab 2 of the expert weights `w`: one expert's matrix. -/
def slab2 (w : Vec F S8x768x768 .f32) : Vec F S1x768x768 .f32 :=
  fun x => w ((Rect.unit (s := S8x768x768) ![2, 0, 0] S1x768x768.size inb_S8x768x768_S1x768x768_2_0_0).toLoadRect.idx x)

/-- Slab 3 of the expert weights `w`: one expert's matrix. -/
def slab3 (w : Vec F S8x768x768 .f32) : Vec F S1x768x768 .f32 :=
  fun x => w ((Rect.unit (s := S8x768x768) ![3, 0, 0] S1x768x768.size inb_S8x768x768_S1x768x768_3_0_0).toLoadRect.idx x)

/-- Slab 4 of the expert weights `w`: one expert's matrix. -/
def slab4 (w : Vec F S8x768x768 .f32) : Vec F S1x768x768 .f32 :=
  fun x => w ((Rect.unit (s := S8x768x768) ![4, 0, 0] S1x768x768.size inb_S8x768x768_S1x768x768_4_0_0).toLoadRect.idx x)

/-- Slab 5 of the expert weights `w`: one expert's matrix. -/
def slab5 (w : Vec F S8x768x768 .f32) : Vec F S1x768x768 .f32 :=
  fun x => w ((Rect.unit (s := S8x768x768) ![5, 0, 0] S1x768x768.size inb_S8x768x768_S1x768x768_5_0_0).toLoadRect.idx x)

/-- Slab 6 of the expert weights `w`: one expert's matrix. -/
def slab6 (w : Vec F S8x768x768 .f32) : Vec F S1x768x768 .f32 :=
  fun x => w ((Rect.unit (s := S8x768x768) ![6, 0, 0] S1x768x768.size inb_S8x768x768_S1x768x768_6_0_0).toLoadRect.idx x)

/-- Slab 7 of the expert weights `w`: one expert's matrix. -/
def slab7 (w : Vec F S8x768x768 .f32) : Vec F S1x768x768 .f32 :=
  fun x => w ((Rect.unit (s := S8x768x768) ![7, 0, 0] S1x768x768.size inb_S8x768x768_S1x768x768_7_0_0).toLoadRect.idx x)

/-- The row numbers of the token-per-column layout. -/
def rowIota : IVec S8x1024 32 := iota .tc S8x1024 32 [0] iota_S8x1024_d0_w32

/-- The running statistics after a tile: `st` and the tile's counts, probability sums and entropy added to it. -/
def statV (x0 : Vec F S1024x768 .f32) (x1 : Vec F S8x768 .f32) (x2 : Vec F S8x1 .f32) (st : Vec F S8x128 .f32) : Vec F S8x128 .f32 :=
  k0_pay15 (k0_pay14 (k0_pay5 x0 x1 x2) (k0_pay6 x0 x1 x2) rowIota (k0_pay8 x0 x1 x2) st)

/-- The routing weights of a tile, one token per column. -/
def combV (x0 : Vec F S1024x768 .f32) (x1 : Vec F S8x768 .f32) (x2 : Vec F S8x1 .f32) : FVec F S8x1024 .f32 :=
  k0_pay13 (k0_pay5 x0 x1 x2) rowIota (k0_pay7 x0 x1 x2) (k0_pay8 x0 x1 x2)

/-- The tile of the first result. -/
def outV (x0 : Vec F S1024x768 .f32) (x1 : Vec F S8x768 .f32) (x2 : Vec F S8x1 .f32) (x3 : Vec F S8x768 .f32) (w : Vec F S8x768x768 .f32) :
    Vec F S1024x768 .f32 :=
  k0_pay1
    (k0_pay19 (k0_pay4 x0) (k0_pay16 (combV x0 x1 x2))
      (k0_pay17 (k0_pay4 x0) (combV x0 x1 x2) x3 (slab0 w) (slab1 w) (slab2 w)) (k0_pay18 (slab3 w)) (slab4 w) (slab5 w) (slab6 w))
    (k0_pay20 (k0_pay4 x0) (slab7 w)) (k0_pay21 (k0_pay16 (combV x0 x1 x2)))

/-- The scratch of the expert weights after its eight slabs have been copied from the operand's contents `g`. -/
def filled (c : Dev nD) (m8 : Memref sig .tc .vmem S8x768x768 .f32) (g : HbBuf0 (F := F) c hbw) (f : m8.view.ty.Contents (Elt F)) :
    m8.view.ty.Contents (Elt F) :=
  (((m8.slice (Rect.unit (s := S8x768x768) ![7, 0, 0] S1x768x768.size inb_S8x768x768_S1x768x768_7_0_0) (fun _ => rfl)).squeeze S768x768 squeezes_S1x768x768_S768x768).view.write (Elt F)
      (((m8.slice (Rect.unit (s := S8x768x768) ![6, 0, 0] S1x768x768.size inb_S8x768x768_S1x768x768_6_0_0) (fun _ => rfl)).squeeze S768x768 squeezes_S1x768x768_S768x768).view.write (Elt F)
      (((m8.slice (Rect.unit (s := S8x768x768) ![5, 0, 0] S1x768x768.size inb_S8x768x768_S1x768x768_5_0_0) (fun _ => rfl)).squeeze S768x768 squeezes_S1x768x768_S768x768).view.write (Elt F)
      (((m8.slice (Rect.unit (s := S8x768x768) ![4, 0, 0] S1x768x768.size inb_S8x768x768_S1x768x768_4_0_0) (fun _ => rfl)).squeeze S768x768 squeezes_S1x768x768_S768x768).view.write (Elt F)
      (((m8.slice (Rect.unit (s := S8x768x768) ![3, 0, 0] S1x768x768.size inb_S8x768x768_S1x768x768_3_0_0) (fun _ => rfl)).squeeze S768x768 squeezes_S1x768x768_S768x768).view.write (Elt F)
      (((m8.slice (Rect.unit (s := S8x768x768) ![2, 0, 0] S1x768x768.size inb_S8x768x768_S1x768x768_2_0_0) (fun _ => rfl)).squeeze S768x768 squeezes_S1x768x768_S768x768).view.write (Elt F)
      (((m8.slice (Rect.unit (s := S8x768x768) ![1, 0, 0] S1x768x768.size inb_S8x768x768_S1x768x768_1_0_0) (fun _ => rfl)).squeeze S768x768 squeezes_S1x768x768_S768x768).view.write (Elt F)
      (((m8.slice (Rect.unit (s := S8x768x768) ![0, 0, 0] S1x768x768.size inb_S8x768x768_S1x768x768_0_0_0) (fun _ => rfl)).squeeze S768x768 squeezes_S1x768x768_S768x768).view.write (Elt F)
      f (((hbw.slice (Rect.unit (s := S8x768x768) ![0, 0, 0] S1x768x768.size inb_S8x768x768_S1x768x768_0_0_0) (fun _ => rfl)).squeeze S768x768 squeezes_S1x768x768_S768x768).view.read (Elt F) g) Finset.univ) (((hbw.slice (Rect.unit (s := S8x768x768) ![1, 0, 0] S1x768x768.size inb_S8x768x768_S1x768x768_1_0_0) (fun _ => rfl)).squeeze S768x768 squeezes_S1x768x768_S768x768).view.read (Elt F) g) Finset.univ) (((hbw.slice (Rect.unit (s := S8x768x768) ![2, 0, 0] S1x768x768.size inb_S8x768x768_S1x768x768_2_0_0) (fun _ => rfl)).squeeze S768x768 squeezes_S1x768x768_S768x768).view.read (Elt F) g) Finset.univ) (((hbw.slice (Rect.unit (s := S8x768x768) ![3, 0, 0] S1x768x768.size inb_S8x768x768_S1x768x768_3_0_0) (fun _ => rfl)).squeeze S768x768 squeezes_S1x768x768_S768x768).view.read (Elt F) g) Finset.univ) (((hbw.slice (Rect.unit (s := S8x768x768) ![4, 0, 0] S1x768x768.size inb_S8x768x768_S1x768x768_4_0_0) (fun _ => rfl)).squeeze S768x768 squeezes_S1x768x768_S768x768).view.read (Elt F) g) Finset.univ) (((hbw.slice (Rect.unit (s := S8x768x768) ![5, 0, 0] S1x768x768.size inb_S8x768x768_S1x768x768_5_0_0) (fun _ => rfl)).squeeze S768x768 squeezes_S1x768x768_S768x768).view.read (Elt F) g) Finset.univ) (((hbw.slice (Rect.unit (s := S8x768x768) ![6, 0, 0] S1x768x768.size inb_S8x768x768_S1x768x768_6_0_0) (fun _ => rfl)).squeeze S768x768 squeezes_S1x768x768_S768x768).view.read (Elt F) g) Finset.univ) (((hbw.slice (Rect.unit (s := S8x768x768) ![7, 0, 0] S1x768x768.size inb_S8x768x768_S1x768x768_7_0_0) (fun _ => rfl)).squeeze S768x768 squeezes_S1x768x768_S768x768).view.read (Elt F) g) Finset.univ)

/-- An index lies in the slab its first coordinate names. -/
theorem in_slab (off : Fin 3 → ℕ) (inb : ∀ a, off a + S1x768x768.size a ≤ S8x768x768.size a) (y : S8x768x768.Idx)
    (h1 : off 1 = 0) (h2 : off 2 = 0) (hy : (y 0).val = off 0) : y ∈ (Rect.unit (s := S8x768x768) off S1x768x768.size inb).set := by
  rw [Rect.mem_set_unit]
  intro a
  have b1 : (y 1).val < 768 := (y 1).isLt
  have b2 : (y 2).val < 768 := (y 2).isLt
  match a with
  | ⟨0, _⟩ => exact ⟨hy.ge, by show (y 0).val < off 0 + 1; omega⟩
  | ⟨1, _⟩ => exact ⟨by show off 1 ≤ _; omega, by show (y 1).val < off 1 + 768; omega⟩
  | ⟨2, _⟩ => exact ⟨by show off 2 ≤ _; omega, by show (y 2).val < off 2 + 768; omega⟩

open scoped Classical in
/-- The filled scratch reads the operand's contents. -/
theorem read_filled (c : Dev nD) (m8 : Memref sig .tc .vmem S8x768x768 .f32) (g : HbBuf0 (F := F) c hbw) (f : m8.view.ty.Contents (Elt F)) :
    m8.view.read (Elt F) (filled c m8 g f) = hbw.view.read (Elt F) g := by
  funext y
  unfold filled
  rw [Slab.read_copy m8 hbw (Rect.unit (s := S8x768x768) ![7, 0, 0] S1x768x768.size inb_S8x768x768_S1x768x768_7_0_0)]; by_cases h7 : y ∈ (Rect.unit (s := S8x768x768) ![7, 0, 0] S1x768x768.size inb_S8x768x768_S1x768x768_7_0_0).set
  · rw [if_pos h7]
  rw [if_neg h7]
  rw [Slab.read_copy m8 hbw (Rect.unit (s := S8x768x768) ![6, 0, 0] S1x768x768.size inb_S8x768x768_S1x768x768_6_0_0)]; by_cases h6 : y ∈ (Rect.unit (s := S8x768x768) ![6, 0, 0] S1x768x768.size inb_S8x768x768_S1x768x768_6_0_0).set
  · rw [if_pos h6]
  rw [if_neg h6]
  rw [Slab.read_copy m8 hbw (Rect.unit (s := S8x768x768) ![5, 0, 0] S1x768x768.size inb_S8x768x768_S1x768x768_5_0_0)]; by_cases h5 : y ∈ (Rect.unit (s := S8x768x768) ![5, 0, 0] S1x768x768.size inb_S8x768x768_S1x768x768_5_0_0).set
  · rw [if_pos h5]
  rw [if_neg h5]
  rw [Slab.read_copy m8 hbw (Rect.unit (s := S8x768x768) ![4, 0, 0] S1x768x768.size inb_S8x768x768_S1x768x768_4_0_0)]; by_cases h4 : y ∈ (Rect.unit (s := S8x768x768) ![4, 0, 0] S1x768x768.size inb_S8x768x768_S1x768x768_4_0_0).set
  · rw [if_pos h4]
  rw [if_neg h4]
  rw [Slab.read_copy m8 hbw (Rect.unit (s := S8x768x768) ![3, 0, 0] S1x768x768.size inb_S8x768x768_S1x768x768_3_0_0)]; by_cases h3 : y ∈ (Rect.unit (s := S8x768x768) ![3, 0, 0] S1x768x768.size inb_S8x768x768_S1x768x768_3_0_0).set
  · rw [if_pos h3]
  rw [if_neg h3]
  rw [Slab.read_copy m8 hbw (Rect.unit (s := S8x768x768) ![2, 0, 0] S1x768x768.size inb_S8x768x768_S1x768x768_2_0_0)]; by_cases h2 : y ∈ (Rect.unit (s := S8x768x768) ![2, 0, 0] S1x768x768.size inb_S8x768x768_S1x768x768_2_0_0).set
  · rw [if_pos h2]
  rw [if_neg h2]
  rw [Slab.read_copy m8 hbw (Rect.unit (s := S8x768x768) ![1, 0, 0] S1x768x768.size inb_S8x768x768_S1x768x768_1_0_0)]; by_cases h1 : y ∈ (Rect.unit (s := S8x768x768) ![1, 0, 0] S1x768x768.size inb_S8x768x768_S1x768x768_1_0_0).set
  · rw [if_pos h1]
  rw [if_neg h1]
  rw [Slab.read_copy m8 hbw (Rect.unit (s := S8x768x768) ![0, 0, 0] S1x768x768.size inb_S8x768x768_S1x768x768_0_0_0)]; by_cases h0 : y ∈ (Rect.unit (s := S8x768x768) ![0, 0, 0] S1x768x768.size inb_S8x768x768_S1x768x768_0_0_0).set
  · rw [if_pos h0]
  rw [if_neg h0]
  exfalso
  have k0 : (y 0).val ≠ 0 := fun hy => h0 (in_slab ![0, 0, 0] _ y rfl rfl hy)
  have k1 : (y 0).val ≠ 1 := fun hy => h1 (in_slab ![1, 0, 0] _ y rfl rfl hy)
  have k2 : (y 0).val ≠ 2 := fun hy => h2 (in_slab ![2, 0, 0] _ y rfl rfl hy)
  have k3 : (y 0).val ≠ 3 := fun hy => h3 (in_slab ![3, 0, 0] _ y rfl rfl hy)
  have k4 : (y 0).val ≠ 4 := fun hy => h4 (in_slab ![4, 0, 0] _ y rfl rfl hy)
  have k5 : (y 0).val ≠ 5 := fun hy => h5 (in_slab ![5, 0, 0] _ y rfl rfl hy)
  have k6 : (y 0).val ≠ 6 := fun hy => h6 (in_slab ![6, 0, 0] _ y rfl rfl hy)
  have k7 : (y 0).val ≠ 7 := fun hy => h7 (in_slab ![7, 0, 0] _ y rfl rfl hy)
  have b : (y 0).val < 8 := (y 0).isLt
  omega

/-- A load of a slab of the filled scratch reads the slab of the operand's contents. -/
theorem load_filled (c : Dev nD) (m8 : Memref sig .tc .vmem S8x768x768 .f32) (g : HbBuf0 (F := F) c hbw) (f : m8.view.ty.Contents (Elt F))
    (r : LoadRect S8x768x768) :
    m8.view.readAt (Elt F) r (filled c m8 g f) = fun x => hbw.view.read (Elt F) g (r.idx x) :=
  congrArg (fun w => fun x => w (r.idx x)) (read_filled c m8 g f)

/-- A load of the whole of a whole buffer reads what it holds. -/
theorem load_whole {s : Shape} {e : EltTy} (M : Memref sig .tc .vmem s e) (h : M.IsWhole) {off : Fin s.rank → ℕ}
    (inb : ∀ a, off a + s.size a ≤ s.size a) (x : s.Idx → Elt F e) :
    M.view.readAt (Elt F) (Rect.unit off s.size inb).toLoadRect (h.unread x) = x :=
  (Slab.readAt_whole M.view inb _).trans (h.read_unread x)

/-- Equal arguments give a function of 2 arguments equal values. -/
theorem cg2 {α0 α1 β : Sort _} (f : α0 → α1 → β) {a0 b0 : α0} {a1 b1 : α1}
    (h0 : a0 = b0) (h1 : a1 = b1) : f a0 a1 = f b0 b1 := by
  cases h0; cases h1; rfl

/-- Equal arguments give a function of 3 arguments equal values. -/
theorem cg3 {α0 α1 α2 β : Sort _} (f : α0 → α1 → α2 → β) {a0 b0 : α0} {a1 b1 : α1} {a2 b2 : α2}
    (h0 : a0 = b0) (h1 : a1 = b1) (h2 : a2 = b2) : f a0 a1 a2 = f b0 b1 b2 := by
  cases h0; cases h1; cases h2; rfl

/-- Equal arguments give a function of 4 arguments equal values. -/
theorem cg4 {α0 α1 α2 α3 β : Sort _} (f : α0 → α1 → α2 → α3 → β) {a0 b0 : α0} {a1 b1 : α1} {a2 b2 : α2} {a3 b3 : α3}
    (h0 : a0 = b0) (h1 : a1 = b1) (h2 : a2 = b2) (h3 : a3 = b3) : f a0 a1 a2 a3 = f b0 b1 b2 b3 := by
  cases h0; cases h1; cases h2; cases h3; rfl

/-- Equal arguments give a function of 5 arguments equal values. -/
theorem cg5 {α0 α1 α2 α3 α4 β : Sort _} (f : α0 → α1 → α2 → α3 → α4 → β) {a0 b0 : α0} {a1 b1 : α1} {a2 b2 : α2} {a3 b3 : α3} {a4 b4 : α4}
    (h0 : a0 = b0) (h1 : a1 = b1) (h2 : a2 = b2) (h3 : a3 = b3) (h4 : a4 = b4) : f a0 a1 a2 a3 a4 = f b0 b1 b2 b3 b4 := by
  cases h0; cases h1; cases h2; cases h3; cases h4; rfl

/-- Equal arguments give a function of 6 arguments equal values. -/
theorem cg6 {α0 α1 α2 α3 α4 α5 β : Sort _} (f : α0 → α1 → α2 → α3 → α4 → α5 → β) {a0 b0 : α0} {a1 b1 : α1} {a2 b2 : α2} {a3 b3 : α3} {a4 b4 : α4} {a5 b5 : α5}
    (h0 : a0 = b0) (h1 : a1 = b1) (h2 : a2 = b2) (h3 : a3 = b3) (h4 : a4 = b4) (h5 : a5 = b5) : f a0 a1 a2 a3 a4 a5 = f b0 b1 b2 b3 b4 b5 := by
  cases h0; cases h1; cases h2; cases h3; cases h4; cases h5; rfl

/-- Equal arguments give a function of 7 arguments equal values. -/
theorem cg7 {α0 α1 α2 α3 α4 α5 α6 β : Sort _} (f : α0 → α1 → α2 → α3 → α4 → α5 → α6 → β) {a0 b0 : α0} {a1 b1 : α1} {a2 b2 : α2} {a3 b3 : α3} {a4 b4 : α4} {a5 b5 : α5} {a6 b6 : α6}
    (h0 : a0 = b0) (h1 : a1 = b1) (h2 : a2 = b2) (h3 : a3 = b3) (h4 : a4 = b4) (h5 : a5 = b5) (h6 : a6 = b6) : f a0 a1 a2 a3 a4 a5 a6 = f b0 b1 b2 b3 b4 b5 b6 := by
  cases h0; cases h1; cases h2; cases h3; cases h4; cases h5; cases h6; rfl

/-- A load of a rectangle of a whole buffer reads what it holds there. -/
theorem load_rect {s : Shape} {e : EltTy} (M : Memref sig .tc .vmem s e) (h : M.IsWhole) (r : LoadRect s) (x : s.Idx → Elt F e) :
    M.view.readAt (Elt F) r (h.unread x) = fun i => x (r.idx i) :=
  congrArg (fun w => fun i => w (r.idx i)) (h.read_unread x)

end Cert.KernelIdeal.Hand

end
-- ==== Proof.KernelIdeal.RunFirst.lean ====
/- The run of the body at the first grid point. -/
module

public import proofs.«01_k».proof.Proof.KernelIdeal.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option sl_exec.dmaWindowSet true in
set_option maxHeartbeats 8000000 in
/-- The body at the first grid point: from anything in the scratch it leaves the operand's expert weights in it, the statistics
    of the tile over the cleared ones, and the tile of the first result; the second result's buffer is left as it was. -/
theorem runFirst (c : Dev nD) (i : grid0.Coords) (arg1 : Memref sig .tc .vmem S1024x768 .f32) (harg1 : arg1.IsWhole) (arg2 : Memref sig .tc .vmem S8x768 .f32) (harg2 : arg2.IsWhole) (arg3 : Memref sig .tc .vmem S8x1 .f32) (harg3 : arg3.IsWhole) (arg5 : Memref sig .tc .vmem S8x768 .f32) (harg5 : arg5.IsWhole) (arg6 : Memref sig .tc .vmem S1024x768 .f32) (harg6 : arg6.IsWhole) (arg7 : Memref sig .tc .vmem S1x1 .f32) (harg7 : arg7.IsWhole) (arg8 : Memref sig .tc .vmem S8x768x768 .f32) (harg8 : arg8.IsWhole) (arg9 : Memref sig .tc .vmem S8x128 .f32) (harg9 : arg9.IsWhole) (hc0 : first i) (hc1 : ¬last i)
    (x0 : Vec F S1024x768 .f32) (x1 : Vec F S8x768 .f32) (x2 : Vec F S8x1 .f32) (x3 : Vec F S8x768 .f32) (fh0 : HbBuf0 (F := F) c hbw)
    (xi5 : Vec F S1x1 .f32) (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ semsZero c ∗ hbPt0 c hbw fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare (outV x0 x1 x2 x3 (hbw.view.read (Elt F) fh0)) ∗ owns (c : Thread nD τ) arg7 fullShare xi5 ∗ owns (c : Thread nD τ) arg8 fullShare (hbw.view.read (Elt F) fh0) ∗ owns (c : Thread nD τ) arg9 fullShare (statV x0 x1 x2 (k0_pay3 (F := F))) ∗ semsZero c ∗ hbPt0 c hbw fh0 ∗ (∃ W', owes (c : Thread nD τ) 0 W')) -∗ K ⟨⟩))
          ⊢ wp frame (wpE (defs₀ (F := F)) Variants.none c none) Set.univ (cc0__body i arg1 harg1 arg2 harg2 arg3 harg3 (Memref.whole main_arg3) (Memref.isWhole_whole _) arg5 harg5 arg6 harg6 arg7 harg7 arg8 harg8 arg9 harg9 cc0_scratch2) K := by
  simp only [cc0__body_eq_skeleton]; unfold cc0__body_skel
  simp only [k0_part1_eq_skeleton, k0_part2_eq_skeleton, k0_part3_eq_skeleton, k0_part4_eq_skeleton, k0_part5_eq_skeleton]
  unfold owns semsZero
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, ⟨Hq0, Hq1, Hq2, Hq3, Hq4, Hq5, Hq6, Hq7⟩, Hh0, HW, Hk⟩
  obtain rfl := harg1.eq_unread hf0; obtain rfl := harg2.eq_unread hf1; obtain rfl := harg3.eq_unread hf2; obtain rfl := harg5.eq_unread hf3; obtain rfl := harg7.eq_unread hf5
  sl_exec (disch := first | sl_exact hc0 | sl_exact hc1)
  sl_step
  have e92 : runFirst.sl.v92 c arg8 fh0 fs0 = slab0 (hbw.view.read (Elt F) fh0) := load_filled c arg8 fh0 fs0 _
  have e99 : runFirst.sl.v99 c arg8 fh0 fs0 = slab1 (hbw.view.read (Elt F) fh0) := load_filled c arg8 fh0 fs0 _
  have e109 : runFirst.sl.v109 c arg8 fh0 fs0 = slab2 (hbw.view.read (Elt F) fh0) := load_filled c arg8 fh0 fs0 _
  have e116 : runFirst.sl.v116 c arg8 fh0 fs0 = slab3 (hbw.view.read (Elt F) fh0) := load_filled c arg8 fh0 fs0 _
  have e126 : runFirst.sl.v126 c arg8 fh0 fs0 = slab4 (hbw.view.read (Elt F) fh0) := load_filled c arg8 fh0 fs0 _
  have e133 : runFirst.sl.v133 c arg8 fh0 fs0 = slab5 (hbw.view.read (Elt F) fh0) := load_filled c arg8 fh0 fs0 _
  have e143 : runFirst.sl.v143 c arg8 fh0 fs0 = slab6 (hbw.view.read (Elt F) fh0) := load_filled c arg8 fh0 fs0 _
  have e150 : runFirst.sl.v150 c arg8 fh0 fs0 = slab7 (hbw.view.read (Elt F) fh0) := load_filled c arg8 fh0 fs0 _
  have e81 : runFirst.sl.v81 (F := F) c arg9 = k0_pay3 (F := F) := View.readCov_unit_zero arg9.view (by funext a; fin_cases a <;> rfl) _ _
  have er : runFirst.sl.r c arg1 harg1 x0 = k0_pay4 x0 := congrArg k0_pay4 (load_whole arg1 harg1 _ x0)
  have er1 : runFirst.sl.r_1 c arg1 harg1 arg2 harg2 arg3 harg3 x0 x1 x2 = k0_pay5 x0 x1 x2 := cg3 k0_pay5 (load_whole arg1 harg1 _ x0) (load_whole arg2 harg2 _ x1) (load_whole arg3 harg3 _ x2)
  have er2 : runFirst.sl.r_2 c arg1 harg1 arg2 harg2 arg3 harg3 x0 x1 x2 = k0_pay6 x0 x1 x2 := cg3 k0_pay6 (load_whole arg1 harg1 _ x0) (load_whole arg2 harg2 _ x1) (load_whole arg3 harg3 _ x2)
  have er3 : runFirst.sl.r_3 c arg1 harg1 arg2 harg2 arg3 harg3 x0 x1 x2 = k0_pay7 x0 x1 x2 := cg3 k0_pay7 (load_whole arg1 harg1 _ x0) (load_whole arg2 harg2 _ x1) (load_whole arg3 harg3 _ x2)
  have er4 : runFirst.sl.r_4 c arg1 harg1 arg2 harg2 arg3 harg3 x0 x1 x2 = k0_pay8 x0 x1 x2 := cg3 k0_pay8 (load_whole arg1 harg1 _ x0) (load_whole arg2 harg2 _ x1) (load_whole arg3 harg3 _ x2)
  have er5 : runFirst.sl.r_5 c arg1 harg1 arg2 harg2 arg3 harg3 x0 x1 x2 = combV x0 x1 x2 := cg4 k0_pay13 er1 rfl er3 er4
  have e7 : runFirst.sl.r_7 c arg1 harg1 arg2 harg2 arg3 harg3 x0 x1 x2 = k0_pay16 (combV x0 x1 x2) := congrArg k0_pay16 er5
  have e12 : runFirst.sl.r_12 c arg1 harg1 arg2 harg2 arg3 harg3 x0 x1 x2 = k0_pay21 (k0_pay16 (combV x0 x1 x2)) := congrArg k0_pay21 e7
  have e6 : runFirst.sl.r_6 c arg1 harg1 arg2 harg2 arg3 harg3 arg9 x0 x1 x2 = k0_pay14 (k0_pay5 x0 x1 x2) (k0_pay6 x0 x1 x2) rowIota (k0_pay8 x0 x1 x2) (k0_pay3 (F := F)) :=
    cg5 k0_pay14 er1 er2 rfl er4 e81
  have e11 : runFirst.sl.r_11 c arg1 harg1 arg8 x0 fh0 fs0 = k0_pay20 (k0_pay4 x0) (slab7 (hbw.view.read (Elt F) fh0)) := cg2 k0_pay20 er e150
  have e10 : runFirst.sl.r_10 c arg1 harg1 arg2 harg2 arg3 harg3 arg5 harg5 arg8 x0 x1 x2 x3 fh0 fs0
      = k0_pay19 (k0_pay4 x0) (k0_pay16 (combV x0 x1 x2))
      (k0_pay17 (k0_pay4 x0) (combV x0 x1 x2) x3 (slab0 (hbw.view.read (Elt F) fh0)) (slab1 (hbw.view.read (Elt F) fh0)) (slab2 (hbw.view.read (Elt F) fh0))) (k0_pay18 (slab3 (hbw.view.read (Elt F) fh0))) (slab4 (hbw.view.read (Elt F) fh0)) (slab5 (hbw.view.read (Elt F) fh0)) (slab6 (hbw.view.read (Elt F) fh0)) :=
    cg7 k0_pay19 er e7 (cg6 k0_pay17 er er5 (load_whole arg5 harg5 _ x3) e92 e99 e109) (congrArg k0_pay18 e116) e126 e133 e143
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr
    swap; · iexact H4
    ipureintro
    exact (View.read_writes_full arg6.view _ _ _ _).trans (cg3 k0_pay1 e10 e11 e12)
  isplitl [H5]
  · iexists _; isplitr; · ipureintro; exact harg7.read_unread _
    iexact H5
  isplitl [HS0]
  · iexists _; isplitr
    · ipureintro; exact read_filled c arg8 fh0 fs0
    iexact HS0
  isplitl [HS1]
  · iexists _; isplitr
    swap; · iexact HS1
    ipureintro
    exact (View.read_writes_full arg9.view _ _ _ _).trans (congrArg k0_pay15 e6)
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexists _; iexact HW

end Cert.KernelIdeal.Hand

end
-- ==== Proof.KernelIdeal.RunLast.lean ====
/- The run of the body at the last grid point. -/
module

public import proofs.«01_k».proof.Proof.KernelIdeal.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at the last grid point: over the scratch of the point before it leaves the expert weights as they were, adds the tile's
    statistics, and writes the tile of the first result and the second result. -/
theorem runLast (c : Dev nD) (i : grid0.Coords) (arg1 : Memref sig .tc .vmem S1024x768 .f32) (harg1 : arg1.IsWhole) (arg2 : Memref sig .tc .vmem S8x768 .f32) (harg2 : arg2.IsWhole) (arg3 : Memref sig .tc .vmem S8x1 .f32) (harg3 : arg3.IsWhole) (arg5 : Memref sig .tc .vmem S8x768 .f32) (harg5 : arg5.IsWhole) (arg6 : Memref sig .tc .vmem S1024x768 .f32) (harg6 : arg6.IsWhole) (arg7 : Memref sig .tc .vmem S1x1 .f32) (harg7 : arg7.IsWhole) (arg8 : Memref sig .tc .vmem S8x768x768 .f32) (harg8 : arg8.IsWhole) (arg9 : Memref sig .tc .vmem S8x128 .f32) (harg9 : arg9.IsWhole) (hc0 : ¬first i) (hc1 : last i)
    (x0 : Vec F S1024x768 .f32) (x1 : Vec F S8x768 .f32) (x2 : Vec F S8x1 .f32) (x3 : Vec F S8x768 .f32) (fh0 : HbBuf0 (F := F) c hbw)
    (w : Vec F S8x768x768 .f32) (st : Vec F S8x128 .f32) (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare w ∗ owns (c : Thread nD τ) arg9 fullShare st ∗ semsZero c ∗ hbPt0 c hbw fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare (outV x0 x1 x2 x3 w) ∗ owns (c : Thread nD τ) arg7 fullShare (k0_pay2 (statV x0 x1 x2 st)) ∗ owns (c : Thread nD τ) arg8 fullShare w ∗ owns (c : Thread nD τ) arg9 fullShare (statV x0 x1 x2 st) ∗ semsZero c ∗ hbPt0 c hbw fh0 ∗ (∃ W', owes (c : Thread nD τ) 0 W')) -∗ K ⟨⟩))
          ⊢ wp frame (wpE (defs₀ (F := F)) Variants.none c none) Set.univ (cc0__body i arg1 harg1 arg2 harg2 arg3 harg3 (Memref.whole main_arg3) (Memref.isWhole_whole _) arg5 harg5 arg6 harg6 arg7 harg7 arg8 harg8 arg9 harg9 cc0_scratch2) K := by
  simp only [cc0__body_eq_skeleton]; unfold cc0__body_skel
  simp only [k0_part1_eq_skeleton, k0_part2_eq_skeleton, k0_part3_eq_skeleton, k0_part4_eq_skeleton, k0_part5_eq_skeleton]
  unfold owns semsZero
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨Hq0, Hq1, Hq2, Hq3, Hq4, Hq5, Hq6, Hq7⟩, Hh0, HW, Hk⟩
  obtain rfl := harg1.eq_unread hf0; obtain rfl := harg2.eq_unread hf1; obtain rfl := harg3.eq_unread hf2; obtain rfl := harg5.eq_unread hf3; obtain rfl := harg8.eq_unread hfs0; obtain rfl := harg9.eq_unread hfs1
  sl_exec (disch := first | sl_exact hc0 | sl_exact hc1)
  sl_step
  have er : runLast.sl.r c arg1 harg1 x0 = k0_pay4 x0 := congrArg k0_pay4 (load_whole arg1 harg1 _ x0)
  have er1 : runLast.sl.r_1 c arg1 harg1 arg2 harg2 arg3 harg3 x0 x1 x2 = k0_pay5 x0 x1 x2 := cg3 k0_pay5 (load_whole arg1 harg1 _ x0) (load_whole arg2 harg2 _ x1) (load_whole arg3 harg3 _ x2)
  have er2 : runLast.sl.r_2 c arg1 harg1 arg2 harg2 arg3 harg3 x0 x1 x2 = k0_pay6 x0 x1 x2 := cg3 k0_pay6 (load_whole arg1 harg1 _ x0) (load_whole arg2 harg2 _ x1) (load_whole arg3 harg3 _ x2)
  have er3 : runLast.sl.r_3 c arg1 harg1 arg2 harg2 arg3 harg3 x0 x1 x2 = k0_pay7 x0 x1 x2 := cg3 k0_pay7 (load_whole arg1 harg1 _ x0) (load_whole arg2 harg2 _ x1) (load_whole arg3 harg3 _ x2)
  have er4 : runLast.sl.r_4 c arg1 harg1 arg2 harg2 arg3 harg3 x0 x1 x2 = k0_pay8 x0 x1 x2 := cg3 k0_pay8 (load_whole arg1 harg1 _ x0) (load_whole arg2 harg2 _ x1) (load_whole arg3 harg3 _ x2)
  have er5 : runLast.sl.r_5 c arg1 harg1 arg2 harg2 arg3 harg3 x0 x1 x2 = combV x0 x1 x2 := cg4 k0_pay13 er1 rfl er3 er4
  have e7 : runLast.sl.r_7 c arg1 harg1 arg2 harg2 arg3 harg3 x0 x1 x2 = k0_pay16 (combV x0 x1 x2) := congrArg k0_pay16 er5
  have e12 : runLast.sl.r_12 c arg1 harg1 arg2 harg2 arg3 harg3 x0 x1 x2 = k0_pay21 (k0_pay16 (combV x0 x1 x2)) := congrArg k0_pay21 e7
  have e11 : runLast.sl.r_11 c arg1 harg1 arg8 harg8 x0 w = k0_pay20 (k0_pay4 x0) (slab7 w) := cg2 k0_pay20 er (load_rect arg8 harg8 _ w)
  have e10 : runLast.sl.r_10 c arg1 harg1 arg2 harg2 arg3 harg3 arg5 harg5 arg8 harg8 x0 x1 x2 x3 w
      = k0_pay19 (k0_pay4 x0) (k0_pay16 (combV x0 x1 x2))
      (k0_pay17 (k0_pay4 x0) (combV x0 x1 x2) x3 (slab0 w) (slab1 w) (slab2 w)) (k0_pay18 (slab3 w)) (slab4 w) (slab5 w) (slab6 w) :=
    cg7 k0_pay19 er e7 (cg6 k0_pay17 er er5 (load_whole arg5 harg5 _ x3) (load_rect arg8 harg8 _ w) (load_rect arg8 harg8 _ w) (load_rect arg8 harg8 _ w))
      (congrArg k0_pay18 (load_rect arg8 harg8 _ w)) (load_rect arg8 harg8 _ w) (load_rect arg8 harg8 _ w) (load_rect arg8 harg8 _ w)
  have e6' : runLast.sl.r_6 c arg1 harg1 arg2 harg2 arg3 harg3 arg9 harg9 x0 x1 x2 st = k0_pay14 (k0_pay5 x0 x1 x2) (k0_pay6 x0 x1 x2) rowIota (k0_pay8 x0 x1 x2) st :=
    cg5 k0_pay14 er1 er2 rfl er4 (load_whole arg9 harg9 _ st)
  have e6 : runLast.sl.HS1_1 c arg1 harg1 arg2 harg2 arg3 harg3 arg9 harg9 x0 x1 x2 st
      = [⟨Rect.unit (s := S8x128) ![0, 0] S8x128.size inb_S8x128_S8x128_0_0, statV x0 x1 x2 st⟩] := by
    delta runLast.sl.HS1_1; rw [e6']; rfl
  have e161 : runLast.sl.v161 c arg1 harg1 arg2 harg2 arg3 harg3 arg9 harg9 x0 x1 x2 st = statV x0 x1 x2 st := by
    delta runLast.sl.v161; rw [e6]
    exact View.readCov_unit_zero arg9.view (by funext a; fin_cases a <;> rfl) _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr
    swap; · iexact H4
    ipureintro
    exact (View.read_writes_full arg6.view _ _ _ _).trans (cg3 k0_pay1 e10 e11 e12)
  isplitl [H5]
  · iexists _; isplitr
    swap; · iexact H5
    ipureintro
    exact (View.read_writes_full arg7.view _ _ _ _).trans (congrArg k0_pay2 e161)
  isplitl [HS0]
  · iexists _; isplitr; · ipureintro; exact harg8.read_unread _
    iexact HS0
  isplitl [HS1]
  · iexists _; isplitr
    swap; · iexact HS1
    ipureintro
    rw [e6]; exact View.read_writes_full arg9.view _ _ _ _
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexists _; iexact HW

end Cert.KernelIdeal.Hand

end
-- ==== Proof.KernelIdeal.Launch.lean ====
/- The proof data of the launch, the body at every point, and the run. -/
module

public import proofs.«01_k».proof.Proof.KernelIdeal.RunFirst
public import proofs.«01_k».proof.Proof.KernelIdeal.RunLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point leaves -/

/-- The experts' weights as the region finds them. -/
abbrev experts (c : Dev nD) : Vec F S8x768x768 .f32 := hbw.view.read (Elt F) (V m c main_arg3)

/-- The router's statistics after point `n`: every tile's up to it, over the cleared ones. -/
def statAt (c : Dev nD) : (n : ℕ) → n < cfg0.N → Vec F S8x128 .f32
  | 0, h => statV (iblk m c 0 ⟨0, h⟩) (iblk m c 1 ⟨0, h⟩) (iblk m c 2 ⟨0, h⟩) k0_pay3
  | n + 1, h => statV (iblk m c 0 ⟨n + 1, h⟩) (iblk m c 1 ⟨n + 1, h⟩) (iblk m c 2 ⟨n + 1, h⟩) (statAt c n (Nat.lt_of_succ_lt h))

/-- The tile of the first result that point `t` writes. -/
def tileOut (c : Dev nD) (t : Fin cfg0.N) : Vec F S1024x768 .f32 :=
  outV (iblk m c 0 t) (iblk m c 1 t) (iblk m c 2 t) (iblk m c 3 t) (experts m c)

/-- The statistics after the first point. -/
theorem statAt_first (c : Dev nD) (t : Fin cfg0.N) (h : t.val = 0) :
    statAt m c t.val t.isLt = statV (iblk m c 0 t) (iblk m c 1 t) (iblk m c 2 t) k0_pay3 := by
  obtain ⟨n, hn⟩ := t
  cases n with
  | zero => rfl
  | succ n => exact absurd h (Nat.succ_ne_zero n)

/-- The statistics after a later point. -/
theorem statAt_later (c : Dev nD) (t : Fin cfg0.N) (h : t.val ≠ 0) :
    statAt m c t.val t.isLt
      = statV (iblk m c 0 t) (iblk m c 1 t) (iblk m c 2 t) (statAt m c (t.val - 1) (Nat.lt_of_le_of_lt (Nat.sub_le _ _) t.isLt)) := by
  obtain ⟨n, hn⟩ := t
  cases n with
  | zero => exact absurd rfl h
  | succ n => rfl

/-! ## The proof data -/

/-- What is held between points, beside the staging buffers: before the first point what the launch hands over; after point `n`
    the experts' weights in their scratch, the statistics in theirs, the generator register, the semaphores at zero and the
    operand that stays in HBM. -/
def heldAt (c : Dev nD) : (n : ℕ) → n ≤ cfg0.N → sProp 𝕄
  | 0, _ => Pipeline.ΦD osem0 spec0 H0 (V m) c
  | n + 1, h => iprop((owns (c : Thread nD τ) wbuf fullShare (experts m c) ∗ owns (c : Thread nD τ) stat fullShare (statAt m c n h))
      ∗ (∃ r, prngReg c r) ∗ semsZero c ∗ hbPt0 c hbw (V m c main_arg3))

/-- Before a later point. -/
theorem heldAt_later (c : Dev nD) (n : ℕ) (h : n ≤ cfg0.N) (hz : n ≠ 0) :
    heldAt m c n h = iprop((owns (c : Thread nD τ) wbuf fullShare (experts m c)
        ∗ owns (c : Thread nD τ) stat fullShare (statAt m c (n - 1) (Nat.lt_of_lt_of_le (Nat.sub_lt (Nat.pos_of_ne_zero hz) Nat.one_pos) h)))
      ∗ (∃ r, prngReg c r) ∗ semsZero c ∗ hbPt0 c hbw (V m c main_arg3)) := by
  cases n with
  | zero => exact absurd rfl hz
  | succ n => rfl

/-- The proof data: the arrays as the region finds them; after a point each input's buffer at its block, the first result's at
    the point's tile, the second's at the scalar of the statistics so far; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOut m c t
    | ⟨5, _⟩ => k0_pay2 (statAt m c t.val t.isLt)
  Φ t := heldAt m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- What is held at a point's start, -/
theorem held_start (c : Dev nD) (t : Fin cfg0.N) : (dats m 0 c).Φ t.castSucc = heldAt m c t.val (Nat.le_of_lt t.isLt) := by
  dsimp only [dats]; exact Pipeline.Dat.Φ_castSucc (heldAt m c) t

/-- and at its end. -/
theorem held_end (c : Dev nD) (t : Fin cfg0.N) :
    (dats m 0 c).Φ t.succ = iprop((owns (c : Thread nD τ) wbuf fullShare (experts m c) ∗ owns (c : Thread nD τ) stat fullShare (statAt m c t.val t.isLt))
      ∗ (∃ r, prngReg c r) ∗ semsZero c ∗ hbPt0 c hbw (V m c main_arg3)) := rfl

/-- What the body finds in input window 0's staging buffer. -/
theorem finds_0 (c : Dev nD) (t : Fin cfg0.N) (d) : (dats m 0 c).before 0 t d = iblk m c 0 t :=
  before_0 m (dats m 0 c) (A_eq m c 0) (fun t => by dsimp only [dats]) t d
/-- What the body finds in input window 1's staging buffer. -/
theorem finds_1 (c : Dev nD) (t : Fin cfg0.N) (d) : (dats m 0 c).before 1 t d = iblk m c 1 t :=
  before_1 m (dats m 0 c) (A_eq m c 1) (fun t => by dsimp only [dats]) t d
/-- What the body finds in input window 2's staging buffer. -/
theorem finds_2 (c : Dev nD) (t : Fin cfg0.N) (d) : (dats m 0 c).before 2 t d = iblk m c 2 t :=
  before_2 m (dats m 0 c) (A_eq m c 2) (fun t => by dsimp only [dats]) t d
/-- What the body finds in input window 3's staging buffer. -/
theorem finds_3 (c : Dev nD) (t : Fin cfg0.N) (d) : (dats m 0 c).before 3 t d = iblk m c 3 t :=
  before_3 m (dats m 0 c) (A_eq m c 3) (fun t => by dsimp only [dats]) t d
/-- What the body leaves in window 0's staging buffer. -/
theorem leaves_0 (c : Dev nD) (t : Fin cfg0.N) : (dats m 0 c).leavesExact 0 t = owns (c : Thread nD τ) (ms_0 t) fullShare (iblk m c 0 t) := by
  unfold Dat.leavesExact; rw [show cfg0.idle 0 (cfg0.grid.coords t) = false from rfl]; dsimp only [dats]
/-- What the body leaves in window 1's staging buffer. -/
theorem leaves_1 (c : Dev nD) (t : Fin cfg0.N) : (dats m 0 c).leavesExact 1 t = owns (c : Thread nD τ) (ms_1 t) fullShare (iblk m c 1 t) := by
  unfold Dat.leavesExact; rw [show cfg0.idle 1 (cfg0.grid.coords t) = false from rfl]; dsimp only [dats]
/-- What the body leaves in window 2's staging buffer. -/
theorem leaves_2 (c : Dev nD) (t : Fin cfg0.N) : (dats m 0 c).leavesExact 2 t = owns (c : Thread nD τ) (ms_2 t) fullShare (iblk m c 2 t) := by
  unfold Dat.leavesExact; rw [show cfg0.idle 2 (cfg0.grid.coords t) = false from rfl]; dsimp only [dats]
/-- What the body leaves in window 3's staging buffer. -/
theorem leaves_3 (c : Dev nD) (t : Fin cfg0.N) : (dats m 0 c).leavesExact 3 t = owns (c : Thread nD τ) (ms_3 t) fullShare (iblk m c 3 t) := by
  unfold Dat.leavesExact; rw [show cfg0.idle 3 (cfg0.grid.coords t) = false from rfl]; dsimp only [dats]
/-- What the body leaves in window 4's staging buffer. -/
theorem leaves_4 (c : Dev nD) (t : Fin cfg0.N) : (dats m 0 c).leavesExact 4 t = owns (c : Thread nD τ) (ms_4 t) fullShare (tileOut m c t) := by
  unfold Dat.leavesExact; rw [show cfg0.idle 4 (cfg0.grid.coords t) = false from rfl]; dsimp only [dats]
/-- What the body leaves in window 5's staging buffer at the last point. -/
theorem leaves_5 (c : Dev nD) (t : Fin cfg0.N) (h : ¬first (grid0.coords t)) (h' : last (grid0.coords t)) :
    (dats m 0 c).leavesExact 5 t = owns (c : Thread nD τ) (ms_5 t) fullShare (k0_pay2 (statAt m c t.val t.isLt)) := by
  unfold Dat.leavesExact; rw [live_last t h h']; dsimp only [dats]

/-! ## The body at every point -/

set_option maxHeartbeats 3200000 in
/-- The body at a point: from what is held before it and what it finds in the staging buffers, to what is held after it and what
    it leaves in them. -/
theorem body_at (c : Dev nD) (t : Fin cfg0.N) :
    iprop((dats m 0 c).Φ t.castSucc ∗ (dats m 0 c).owesAt () t.castSucc
        ∗ (∃ d, owns (c : Thread nD τ) (ms_0 t) fullShare ((dats m 0 c).before 0 t d))
        ∗ (∃ d, owns (c : Thread nD τ) (ms_1 t) fullShare ((dats m 0 c).before 1 t d))
        ∗ (∃ d, owns (c : Thread nD τ) (ms_2 t) fullShare ((dats m 0 c).before 2 t d))
        ∗ (∃ d, owns (c : Thread nD τ) (ms_3 t) fullShare ((dats m 0 c).before 3 t d))
        ∗ (∃ d, owns (c : Thread nD τ) (ms_4 t) fullShare ((dats m 0 c).before 4 t d))
        ∗ (∃ d, owns (c : Thread nD τ) (ms_5 t) fullShare ((dats m 0 c).before 5 t d)))
      ⊢ wp frame (wpE (defs₀ (F := F)) Variants.none c none) Set.univ (bodyAt0 t) (fun _ =>
        iprop((dats m 0 c).Φ t.succ ∗ (dats m 0 c).owesAt () t.succ
          ∗ (dats m 0 c).leavesExact 0 t ∗ (dats m 0 c).leavesExact 1 t ∗ (dats m 0 c).leavesExact 2 t
          ∗ (dats m 0 c).leavesExact 3 t ∗ (dats m 0 c).leavesExact 4 t ∗ (dats m 0 c).leavesExact 5 t)) := by
  have hN : t.val < 2 := Nat.lt_of_lt_of_eq t.isLt N_0
  unfold bodyAt0
  simp only [finds_0, finds_1, finds_2, finds_3, leaves_0, leaves_1, leaves_2, leaves_3, leaves_4]
  rw [held_end, held_start]
  unfold Dat.owesAt Pipeline.owesWithin
  rw [show (dats m 0 c).owed t.castSucc = 0 from rfl, show (dats m 0 c).owed t.succ = 0 from rfl]
  by_cases hz : t.val = 0
  · have hf : first (grid0.coords t) := (first_iff t).mpr (by omega)
    have hl : ¬last (grid0.coords t) := fun h => by have := (last_iff t).mp h; omega
    rw [Dat.leavesExact_idle (dats m 0 c) 5 t (idle_first t hf hl) (noFlush_first t hf hl), statAt_first m c t hz,
      show heldAt m c t.val (Nat.le_of_lt t.isLt) = Pipeline.ΦD osem0 spec0 H0 (V m) c from by
        have e : ∀ (n : ℕ) (h : n ≤ cfg0.N), n = 0 → heldAt m c n h = Pipeline.ΦD osem0 spec0 H0 (V m) c := fun n h e => by subst e; rfl
        exact e _ _ hz, PhiD0_eq]
    iintro ⟨⟨⟨HS0, HS1⟩, Hg, Hq, Hh0⟩, ⟨%W, -, HW⟩, ⟨%d0, H0⟩, ⟨%d1, H1⟩, ⟨%d2, H2⟩, ⟨%d3, H3⟩, ⟨%d4, H4⟩, ⟨%d5, H5⟩⟩
    iapply (runFirst c (grid0.coords t) _ _ _ _ _ _ _ _ _ _ _ _ _ (Memref.isWhole_whole _) _ (Memref.isWhole_whole _) hf hl (iblk m c 0 t) (iblk m c 1 t) (iblk m c 2 t) (iblk m c 3 t) (V m c main_arg3) _ W _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    isplitl [Hq]; · iexact Hq
    isplitl [Hh0]; · iexact Hh0
    isplitl [HW]; · iexact HW
    iintro ⟨H0, H1, H2, H3, H4, H5, HS0, HS1, Hq, Hh0, ⟨%W', HW'⟩⟩
    isplitl [HS0 HS1 Hg Hq Hh0]
    · isplitl [HS0 HS1]
      · isplitl [HS0]; · iexact HS0
        iexact HS1
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexists _; iexact H5
  · have hf : ¬first (grid0.coords t) := fun h => by have := (first_iff t).mp h; omega
    have hl : last (grid0.coords t) := (last_iff t).mpr (by omega)
    rw [leaves_5 m c t hf hl, heldAt_later m c _ _ hz, statAt_later m c t hz]
    iintro ⟨⟨⟨HS0, HS1⟩, Hg, Hq, Hh0⟩, ⟨%W, -, HW⟩, ⟨%d0, H0⟩, ⟨%d1, H1⟩, ⟨%d2, H2⟩, ⟨%d3, H3⟩, ⟨%d4, H4⟩, ⟨%d5, H5⟩⟩
    iapply (runLast c (grid0.coords t) _ _ _ _ _ _ _ _ _ _ _ _ _ (Memref.isWhole_whole _) _ (Memref.isWhole_whole _) hf hl (iblk m c 0 t) (iblk m c 1 t) (iblk m c 2 t) (iblk m c 3 t) (V m c main_arg3) (experts m c) _ W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [Hq]; · iexact Hq
    isplitl [Hh0]; · iexact Hh0
    isplitl [HW]; · iexact HW
    iintro ⟨H0, H1, H2, H3, H4, H5, HS0, HS1, Hq, Hh0, ⟨%W', HW'⟩⟩
    isplitl [HS0 HS1 Hg Hq Hh0]
    · isplitl [HS0 HS1]
      · isplitl [HS0]; · iexact HS0
        iexact HS1
      isplitl [Hg]; · iexact Hg
      isplitl [Hq]; · iexact Hq
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-- What the launch hands over is what is held before the first point. -/
theorem hin (c : Dev nD) : Pipeline.ΦD osem0 spec0 H0 (V m) c ⊢ (dats m 0 c).Φ 0 := by
  rw [show (dats m 0 c).Φ 0 = Pipeline.ΦD osem0 spec0 H0 (V m) c from rfl]

/-- What is held after the last point gives it back. -/
theorem hout (c : Dev nD) : (dats m 0 c).Φ (Fin.last cfg0.N) ⊢ Pipeline.ΦD osem0 spec0 H0 (V m) c := by
  rw [show (dats m 0 c).Φ (Fin.last cfg0.N) = heldAt m c cfg0.N (Nat.le_refl _) from rfl,
    heldAt_later m c _ _ (by rw [show cfg0.N = 2 from N_0]; decide), PhiD0_eq]
  iintro ⟨⟨HS0, HS1⟩, Hg, Hq, Hh0⟩
  isplitl [HS0 HS1]
  · isplitl [HS0]
    · iexists _; iexact HS0
    iexists _; iexact HS1
  isplitl [Hg]; · iexact Hg
  isplitl [Hq]; · iexact Hq
  iexact Hh0

/-! ## The run and the frame -/

set_option backward.isDefEq.respectTransparency.types false in
set_option maxHeartbeats 800000 in
/-- Every execution ends with the pipeline's arrays as the proof data compute them, and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmainD m Variants.none) (hA := A_eq m) (hin := hin m) (hout := hout m)

/-- Every execution ends with the pipeline's arrays as the proof data compute them. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_from m ρ (dats m) (A_eq m) (run m ρ)) ((θ_run defs _ _).mono (fun _ h => h.2) (run_quiet m ρ))

end Cert.KernelIdeal.Hand

end
-- ==== Proof.Router.Order.lean ====
/- The two greatest of eight values, equal values in index order: where a stable sort puts them, and how the two masks by which a
   kernel finds them (the greatest value, then the least index holding it, twice) name the same two indices. -/
module

public import Idealize.ShloMosaic.PureOps.Ideal
public import Idealize.ShloMosaic.PureOps.Ideal.Laws
public import Idealize.ShloMosaic.PureOps.Reduce
public import Idealize.ShloMosaic.Lib.SortFacts

@[expose] public section

noncomputable section

namespace Cert.Router

open Idealize.ShloMosaic

variable {n : Nat}

/-- `a` is ahead of `b`: its value is greater, or the values are equal and it is the lower index. -/
def Ahead (p : Fin n → EReal) (a b : Fin n) : Prop := p b < p a ∨ (p a = p b ∧ a < b)

/-- "Greater": what the stable sort compares by. -/
def greater (p : Fin n → EReal) (a b : Fin n) : Bool := decide (p b < p a)

/-- Of two different indices at most one is ahead of the other. -/
theorem Ahead.asymm {p : Fin n → EReal} {a b : Fin n} (h : Ahead p a b) (h' : Ahead p b a) : False := by
  rcases h with h | ⟨e, h⟩ <;> rcases h' with h' | ⟨e', h'⟩
  · exact absurd h (not_lt.mpr h'.le)
  · exact absurd e' h.ne
  · exact absurd e h'.ne
  · exact absurd h (not_lt.mpr h'.le)

/-- What is ahead is at least as great. -/
theorem Ahead.le {p : Fin n → EReal} {a b : Fin n} (h : Ahead p a b) : p b ≤ p a := by
  rcases h with h | ⟨e, _⟩
  · exact h.le
  · exact e.ge

/-- What is ahead of a lower index is greater. -/
theorem Ahead.lt_of_lt {p : Fin n → EReal} {a b : Fin n} (h : Ahead p a b) (hlt : b < a) : p b < p a := by
  rcases h with h | ⟨_, h⟩
  · exact h
  · exact absurd h (not_lt.mpr hlt.le)

/-- Inserting an index below all of an ordered list's keeps the list ordered. -/
theorem pairwise_ahead_insert (p : Fin n → EReal) (a : Fin n) (l : List (Fin n)) (hl : l.Pairwise (Ahead p))
    (ha : ∀ b ∈ l, a < b) : (insertBefore (greater p) a l).Pairwise (Ahead p) := by
  induction l with
  | nil => exact List.pairwise_singleton _ _
  | cons b l ih =>
    rw [List.pairwise_cons] at hl
    unfold insertBefore
    split
    · rename_i hb
      refine List.pairwise_cons.mpr ⟨fun c hc => ?_, ih hl.2 fun c hc => ha c (List.mem_cons_of_mem _ hc)⟩
      rcases List.mem_cons.mp ((perm_insertBefore _ a l).mem_iff.mp hc) with rfl | hc'
      · exact .inl (of_decide_eq_true hb)
      · exact hl.1 c hc'
    · rename_i hb
      have hba : p b ≤ p a := not_lt.mp fun h => hb (decide_eq_true h)
      refine List.pairwise_cons.mpr ⟨fun c hc => ?_, List.pairwise_cons.mpr hl⟩
      have hca : p c ≤ p a := by
        rcases List.mem_cons.mp hc with rfl | hc'
        · exact hba
        · exact (hl.1 c hc').le.trans hba
      rcases hca.lt_or_eq with h | h
      · exact .inl h
      · exact .inr ⟨h.symm, ha c hc⟩

/-- The stable sort of an increasing list of indices lists each index ahead of the later ones. -/
theorem pairwise_ahead_stableSort (p : Fin n → EReal) (l : List (Fin n)) (hl : l.Pairwise (· < ·)) :
    (stableSort (greater p) l).Pairwise (Ahead p) := by
  induction l with
  | nil => exact List.Pairwise.nil
  | cons a l ih =>
    rw [List.pairwise_cons] at hl
    unfold stableSort
    exact pairwise_ahead_insert p a _ (ih hl.2) fun b hb => hl.1 b ((perm_stableSort _ l).mem_iff.mp hb)

/-- The index the sort puts first of two positions is ahead of the other's. -/
theorem sortedFrom_ahead (p : Fin n → EReal) {i j : Fin n} (hij : i < j) :
    Ahead p (sortedFrom (greater p) i) (sortedFrom (greater p) j) := by
  have h : ∀ a b : Fin (sortPositions n (greater p)).length, a < b →
      Ahead p ((sortPositions n (greater p)).get a) ((sortPositions n (greater p)).get b) :=
    List.pairwise_iff_get.mp (pairwise_ahead_stableSort p (List.finRange n) (List.pairwise_lt_finRange n))
  unfold sortedFrom
  exact h _ _ (by simp only [Fin.lt_def, Fin.val_cast]; exact hij)

/-- The index of the greatest value (the lowest such). -/
def best (p : Fin 8 → EReal) : Fin 8 := sortedFrom (greater p) 0

/-- The index of the greatest value but the best (the lowest such). -/
def second (p : Fin 8 → EReal) : Fin 8 := sortedFrom (greater p) 1

/-- The best is ahead of every other index. -/
theorem best_ahead (p : Fin 8 → EReal) (k : Fin 8) (hk : k ≠ best p) : Ahead p (best p) k := by
  obtain ⟨i, rfl⟩ := sortedFrom_surjective (greater p) k
  refine sortedFrom_ahead p (Fin.pos_iff_ne_zero.mpr fun h => hk ?_)
  rw [h]; rfl

/-- The second is not the best. -/
theorem second_ne_best (p : Fin 8 → EReal) : second p ≠ best p := fun h =>
  absurd (sortedFrom_injective (greater p) h) (by decide)

/-- The second is ahead of every index but the best and itself. -/
theorem second_ahead (p : Fin 8 → EReal) (k : Fin 8) (hk : k ≠ best p) (hk' : k ≠ second p) : Ahead p (second p) k := by
  obtain ⟨i, rfl⟩ := sortedFrom_surjective (greater p) k
  refine sortedFrom_ahead p ?_
  have h0 : i ≠ 0 := fun h => hk (by rw [h]; rfl)
  have h1 : i ≠ 1 := fun h => hk' (by rw [h]; rfl)
  have h0' : i.val ≠ 0 := fun h => h0 (Fin.ext h)
  have h1' : i.val ≠ 1 := fun h => h1 (Fin.ext h)
  show 1 < i.val
  omega

/-- An index ahead of every other is the best. -/
theorem eq_best {p : Fin 8 → EReal} {i : Fin 8} (h : ∀ k, k ≠ i → Ahead p i k) : i = best p := by
  by_contra hne
  exact (h _ (Ne.symm hne)).asymm (best_ahead p i hne)

/-- The greatest value is the best's. -/
theorem fold_max_eq (p : Fin 8 → EReal) : (Finset.univ.fold max ⊥ p) = p (best p) := by
  refine le_antisymm ?_ ?_
  · refine (Finset.fold_max_le (p (best p))).mpr ⟨bot_le, fun k _ => ?_⟩
    rcases eq_or_ne k (best p) with h | h
    · rw [h]
    · exact (best_ahead p k h).le
  · exact Finset.le_fold_max _ |>.mpr (.inr ⟨_, Finset.mem_univ _, le_rfl⟩)

/-- The least of the words that `w` absorbs is `w` where one of them is `w`. -/
theorem fold_minsi_eq (f : Fin 8 → BitVec 32) (c w : BitVec 32) (i : Fin 8) (hi : f i = w) (hc : IntOp.minsi w c = w)
    (hf : ∀ k, IntOp.minsi w (f k) = w) : Finset.univ.fold IntOp.minsi c f = w := by
  have h : ∀ s : Finset (Fin 8), IntOp.minsi w (s.fold IntOp.minsi c f) = w := by
    intro s
    induction s using Finset.induction_on with
    | empty => simpa using hc
    | insert a s ha ih =>
      rw [Finset.fold_insert ha, ← Std.Associative.assoc (op := IntOp.minsi (w := 32)), hf, ih]
  rw [← Finset.insert_erase (Finset.mem_univ i), Finset.fold_insert (Finset.notMem_erase _ _), hi]
  exact h _

/-- The least index at which the greatest value is held, as a word: the best. -/
theorem fold_first (p : Fin 8 → EReal) :
    Finset.univ.fold IntOp.minsi (2147483647#32) (fun k : Fin 8 => if p k = p (best p) then BitVec.ofNat 32 k.val else 8#32)
      = BitVec.ofNat 32 (best p).val := by
  have hc : ∀ i : Fin 8, IntOp.minsi (BitVec.ofNat 32 i.val) 2147483647#32 = BitVec.ofNat 32 i.val := by decide
  have h8 : ∀ i : Fin 8, IntOp.minsi (BitVec.ofNat 32 i.val) 8#32 = BitVec.ofNat 32 i.val := by decide
  have hle : ∀ i k : Fin 8, i ≤ k → IntOp.minsi (BitVec.ofNat 32 i.val) (BitVec.ofNat 32 k.val) = BitVec.ofNat 32 i.val := by decide
  refine fold_minsi_eq _ _ _ (best p) (if_pos rfl) (hc _) fun k => ?_
  split
  · rename_i h
    refine hle _ _ (not_lt.mp fun hlt => ?_)
    exact absurd h (Ahead.lt_of_lt (best_ahead p k hlt.ne) hlt).ne
  · exact h8 _

/-- The values with the best's struck out. -/
def struck (p : Fin 8 → EReal) (k : Fin 8) : EReal := if k = best p then ⊥ else p k

/-- Once the best is struck out, the second is the best, where no value is `⊥`. -/
theorem best_struck (p : Fin 8 → EReal) (hp : ∀ k, ⊥ < p k) : best (struck p) = second p := by
  refine (eq_best fun k hk => ?_).symm
  have h2 : struck p (second p) = p (second p) := if_neg (second_ne_best p)
  by_cases hb : k = best p
  · refine .inl ?_
    rw [h2, struck, if_pos hb]
    exact hp _
  · have hs : struck p k = p k := if_neg hb
    rcases second_ahead p k hb hk with h | h
    · exact .inl (by rw [hs, h2]; exact h)
    · exact .inr (by rw [hs, h2]; exact h)

/-- Words of two experts' indices are equal exactly when the experts are. -/
theorem cmpi_ofNat (a b : Fin 8) : IntOp.cmpi .eq (BitVec.ofNat 32 a.val) (BitVec.ofNat 32 b.val) = if a = b then 1#1 else 0#1 := by
  revert a b; decide

/-- What the routing of a token gives each expert: the two greatest probabilities, zero elsewhere. -/
def weight (p : Fin 8 → EReal) (e : Fin 8) : EReal :=
  (if e = best p then p (best p) else 0) + (if e = second p then p (second p) else 0)

/-- Whether a token is routed to an expert, as a number. -/
def hit (p : Fin 8 → EReal) (e : Fin 8) : EReal := (if e = best p then 1 else 0) + (if e = second p then 1 else 0)

end Cert.Router
-- ==== Proof.Router.Soft.lean ====
/- The router of one token: the softmax of its logits, which is real and nonnegative when the logits are real; the weights the two
   greatest probabilities give; and the two results of the layer as formulas in all the tokens. -/
module

public import proofs.«01_k».proof.Proof.Router.Order

@[expose] public section

noncomputable section

namespace Cert.Router

open Idealize.ShloMosaic

/-- A value that is a real number. -/
def IsReal (x : EReal) : Prop := ∃ r : ℝ, x = (r : EReal)

/-- A value below infinity in size is real. -/
theorem isReal_of_abs {x : EReal} (h : max x (-x) < ⊤) : IsReal x := by
  induction x with
  | bot => simp at h
  | coe r => exact ⟨r, rfl⟩
  | top => simp at h

/-- Sums of two reals are real. -/
theorem IsReal.add {x y : EReal} (hx : IsReal x) (hy : IsReal y) : IsReal (x + y) := by
  obtain ⟨r, rfl⟩ := hx; obtain ⟨s, rfl⟩ := hy; exact ⟨r + s, (EReal.coe_add r s).symm⟩

/-- Products of two reals are real. -/
theorem IsReal.mul {x y : EReal} (hx : IsReal x) (hy : IsReal y) : IsReal (x * y) := by
  obtain ⟨r, rfl⟩ := hx; obtain ⟨s, rfl⟩ := hy; exact ⟨r * s, (EReal.coe_mul r s).symm⟩

/-- A finite sum of the coercions is the coercion of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Finite sums of reals are real. -/
theorem IsReal.sum {ι : Type} {s : Finset ι} {f : ι → EReal} (h : ∀ i, IsReal (f i)) : IsReal (∑ i ∈ s, f i) := by
  choose r hr using h
  exact ⟨∑ i ∈ s, r i, by rw [← coe_sum]; exact Finset.sum_congr rfl fun i _ => hr i⟩

/-- The softmax of eight logits. -/
def soft (l : Fin 8 → EReal) (e : Fin 8) : EReal :=
  Ideal.div (Ideal.exp (l e - Finset.univ.fold max ⊥ l)) (∑ k, Ideal.exp (l k - Finset.univ.fold max ⊥ l))

/-- Real logits have a softmax of nonnegative reals. -/
theorem soft_real {l : Fin 8 → EReal} (h : ∀ e, IsReal (l e)) : ∃ r : Fin 8 → ℝ, (∀ e, soft l e = (r e : EReal)) ∧ ∀ e, 0 ≤ r e := by
  choose r hr using h
  have hm : Finset.univ.fold max ⊥ l = (r (best l) : EReal) := by rw [fold_max_eq, hr]
  have hx : ∀ e, Ideal.exp (l e - Finset.univ.fold max ⊥ l) = ((Real.exp (r e - r (best l)) : ℝ) : EReal) := fun e => by
    rw [hm, hr e, ← EReal.coe_sub, Ideal.exp_coe]
  have hpos : 0 < ∑ k, Real.exp (r k - r (best l)) := Finset.sum_pos (fun k _ => Real.exp_pos _) Finset.univ_nonempty
  refine ⟨fun e => Real.exp (r e - r (best l)) * (1 / ∑ k, Real.exp (r k - r (best l))), fun e => ?_, fun e => by positivity⟩
  unfold soft
  rw [Finset.sum_congr rfl fun k _ => hx k, hx, coe_sum, Ideal.div_coe hpos.ne', EReal.coe_mul]

/-- The logits of a token `x` under the gate's weights `g` and biases `b`. -/
def logit (g : Fin 8 → Fin 768 → EReal) (b : Fin 8 → EReal) (x : Fin 768 → EReal) (e : Fin 8) : EReal := ∑ k, x k * g e k + b e

/-- The probabilities a token's routing gives the experts. -/
def prob (g : Fin 8 → Fin 768 → EReal) (b : Fin 8 → EReal) (x : Fin 768 → EReal) (e : Fin 8) : EReal := soft (logit g b x) e

/-- Of real arguments the logits are real. -/
theorem logit_real {g : Fin 8 → Fin 768 → EReal} {b : Fin 8 → EReal} {x : Fin 768 → EReal} (hg : ∀ e k, IsReal (g e k))
    (hb : ∀ e, IsReal (b e)) (hx : ∀ k, IsReal (x k)) (e : Fin 8) : IsReal (logit g b x e) :=
  (IsReal.sum fun k => (hx k).mul (hg e k)).add (hb e)

/-- Of real arguments the probabilities are nonnegative reals. -/
theorem prob_real {g : Fin 8 → Fin 768 → EReal} {b : Fin 8 → EReal} {x : Fin 768 → EReal} (hg : ∀ e k, IsReal (g e k))
    (hb : ∀ e, IsReal (b e)) (hx : ∀ k, IsReal (x k)) : ∃ r : Fin 8 → ℝ, (∀ e, prob g b x e = (r e : EReal)) ∧ ∀ e, 0 ≤ r e :=
  soft_real (logit_real hg hb hx)

/-- The weights of nonnegative real probabilities are nonnegative and below infinity. -/
theorem weight_real {p : Fin 8 → EReal} {r : Fin 8 → ℝ} (h : ∀ e, p e = (r e : EReal)) (h0 : ∀ e, 0 ≤ r e) (e : Fin 8) :
    0 ≤ weight p e ∧ weight p e ≠ ⊤ := by
  have key : ∀ k : Fin 8, ∀ q : Prop, [Decidable q] → ∃ s : ℝ, 0 ≤ s ∧ (if q then p k else 0) = (s : EReal) := by
    intro k q _
    split
    · exact ⟨r k, h0 k, h k⟩
    · exact ⟨0, le_rfl, rfl⟩
  obtain ⟨s, hs, es⟩ := key (best p) (e = best p)
  obtain ⟨u, hu, eu⟩ := key (second p) (e = second p)
  unfold weight
  rw [es, eu, ← EReal.coe_add]
  exact ⟨by exact_mod_cast add_nonneg hs hu, EReal.coe_ne_top _⟩

/-- An expert's output and its bias, weighted: the weight distributes. -/
theorem weight_mul_add {p : Fin 8 → EReal} {r : Fin 8 → ℝ} (h : ∀ e, p e = (r e : EReal)) (h0 : ∀ e, 0 ≤ r e) (e : Fin 8)
    (y z : EReal) : weight p e * (y + z) = weight p e * y + weight p e * z :=
  EReal.left_distrib_of_nonneg_of_ne_top (weight_real h h0 e).1 (weight_real h h0 e).2 y z

/-- The number added to a probability under the logarithm. -/
def eps : EReal := Ideal.ofBits .f32 841731191#32

/-- It is a positive real. -/
theorem eps_pos : ∃ q : ℝ, eps = (q : EReal) ∧ 0 < q := by
  refine ⟨_, by unfold eps; simp only [Ideal.ofBits, Ideal.ieee]; simp [-EReal.coe_mul]; rfl, by norm_num⟩

/-- One expert's term of a token's entropy, without its sign. -/
def plogp (p : EReal) : EReal := p * Ideal.log (p + eps)

/-- Of a nonnegative real it is real. -/
theorem plogp_real {r : ℝ} (h : 0 ≤ r) : IsReal (plogp (r : EReal)) := by
  obtain ⟨q, hq, h0⟩ := eps_pos
  unfold plogp
  rw [hq, ← EReal.coe_add, Ideal.log_coe, if_neg (by linarith), ← EReal.coe_mul]
  exact ⟨_, rfl⟩

end Cert.Router
-- ==== Proof.KernelIdeal.Tile.lean ====
/- The body's values at coordinates: a tile's probabilities, routing weights, statistics and first result, in the router's terms. -/
module

public import proofs.«01_k».proof.Proof.KernelIdeal.Values
public import proofs.«01_k».proof.Proof.Router.Soft
public import Idealize.ShloMosaic.Lib.Pointwise

@[expose] public section

set_option maxRecDepth 16384

noncomputable section

namespace Cert.KernelIdeal.Tile

open Idealize.ShloMosaic Cert.KernelIdeal Cert.KernelIdeal.Gen Cert.KernelIdeal.Hand Cert.Router

/-- The bit pattern of minus infinity. -/
theorem ofBits_bot : Ideal.ofBits FTy.f32 4286578688#32 = ⊥ := by simp [Ideal.ofBits, Ideal.ieee]

/-- The probabilities of token `t` of a tile. -/
def tokenProb (x : Vec Ideal S1024x768 .f32) (g : Vec Ideal S8x768 .f32) (b : Vec Ideal S8x1 .f32) (t : Fin 1024) : Fin 8 → EReal :=
  prob (fun e k => g (ix2 e k)) (fun e => b (ix2 e 0)) (fun k => x (ix2 t k))

variable (x : Vec Ideal S1024x768 .f32) (g : Vec Ideal S8x768 .f32) (b : Vec Ideal S8x1 .f32)

/-- The body's softmax, one token per column, is the token's probabilities. -/
theorem pay5_eq (e : Fin 8) (t : Fin 1024) : k0_pay5 x g b (ix2 e t) = tokenProb x g b t e := by
  have h : k0_pay5 x g b (ix2 e t)
      = soft (fun e' => ∑ k : Fin 768, g (ix2 e' k) * x (ix2 t k) + b (ix2 e' 0)) e := by
    unfold soft
    rw [← ofBits_bot]
    pointwise [k0_pay5, k0_pay4]
  rw [h]
  unfold tokenProb prob
  congr 1
  funext e'
  unfold logit
  congr 1
  exact Finset.sum_congr rfl fun k _ => mul_comm _ _

/-- The tile's entropy. -/
theorem pay6_eq : k0_pay6 x g b = 0 - ∑ e : Fin 8, ∑ t : Fin 1024, plogp (tokenProb x g b t e) := by
  have h : k0_pay6 x g b = 0 - ∑ e : Fin 8, ∑ t : Fin 1024, plogp (k0_pay5 x g b (ix2 e t)) := by
    unfold plogp eps
    pointwise [k0_pay6, k0_pay4]
  rw [h]
  simp only [pay5_eq]

/-- The row numbers read at coordinates. -/
theorem rowIota_eq (e : Fin 8) (t : Fin 1024) : rowIota (ix2 e t) = BitVec.ofNat 32 e.val := by
  pointwise [rowIota]

/-- The first mask's words: the row number where the greatest probability is held, eight elsewhere. -/
theorem pay8_eq (e : Fin 8) (t : Fin 1024) :
    k0_pay8 x g b (ix2 e t) = if tokenProb x g b t e = tokenProb x g b t (best (tokenProb x g b t)) then BitVec.ofNat 32 e.val else 8#32 := by
  have h : k0_pay8 x g b (ix2 e t) = if k0_pay5 x g b (ix2 e t) = Finset.univ.fold max (Ideal.ofBits FTy.f32 4286578688#32) (fun e' : Fin 8 => k0_pay5 x g b (ix2 e' t))
      then BitVec.ofNat 32 e.val else 8#32 := by
    pointwise [k0_pay8, k0_pay7]
  rw [h, ofBits_bot]
  simp only [pay5_eq, ← fold_max_eq]

/-- The first mask marks the best expert. -/
theorem pay9_eq (e : Fin 8) (t : Fin 1024) :
    k0_pay9 rowIota (k0_pay8 x g b) (ix2 e t) = if e = best (tokenProb x g b t) then 1#1 else 0#1 := by
  have h : k0_pay9 rowIota (k0_pay8 x g b) (ix2 e t)
      = IntOp.cmpi .eq (rowIota (ix2 e t)) (Finset.univ.fold IntOp.minsi 2147483647#32 (fun k : Fin 8 => k0_pay8 x g b (ix2 k t))) := by
    pointwise [k0_pay9, k0_pay7]
  rw [h, rowIota_eq]
  simp only [pay8_eq]
  rw [fold_first, cmpi_ofNat]

/-- The probabilities with the best struck out. -/
theorem select_struck (e : Fin 8) (t : Fin 1024) :
    Scalar.select (k0_pay9 rowIota (k0_pay8 x g b) (ix2 e t)) (Ideal.ofBits FTy.f32 4286578688#32) (k0_pay5 x g b (ix2 e t))
      = struck (tokenProb x g b t) e := by
  rw [pay9_eq, pay5_eq, ofBits_bot]
  unfold struck Scalar.select
  split <;> simp

/-- The second mask marks the second expert. -/
theorem pay12_eq (t : Fin 1024) (hp : ∀ k, ⊥ < tokenProb x g b t k) (e : Fin 8) :
    k0_pay12 (k0_pay5 x g b) rowIota (k0_pay8 x g b) (ix2 e t) = if e = second (tokenProb x g b t) then 1#1 else 0#1 := by
  have h : k0_pay12 (k0_pay5 x g b) rowIota (k0_pay8 x g b) (ix2 e t)
      = IntOp.cmpi .eq (rowIota (ix2 e t)) (Finset.univ.fold IntOp.minsi 2147483647#32 (fun k : Fin 8 =>
        if Scalar.select (k0_pay9 rowIota (k0_pay8 x g b) (ix2 k t)) (Ideal.ofBits FTy.f32 4286578688#32) (k0_pay5 x g b (ix2 k t))
          = Finset.univ.fold max (Ideal.ofBits FTy.f32 4286578688#32) (fun k : Fin 8 =>
            Scalar.select (k0_pay9 rowIota (k0_pay8 x g b) (ix2 k t)) (Ideal.ofBits FTy.f32 4286578688#32) (k0_pay5 x g b (ix2 k t)))
        then rowIota (ix2 k t) else 8#32)) := by
    pointwise [k0_pay12, k0_pay11, k0_pay10]
  rw [h]
  simp only [rowIota_eq, select_struck]
  rw [ofBits_bot]
  simp only [fold_max_eq]
  rw [fold_first, cmpi_ofNat, best_struck _ hp]

/-- The routing weights of a tile, one token per column. -/
theorem combV_eq (t : Fin 1024) (hp : ∀ k, ⊥ < tokenProb x g b t k) (e : Fin 8) :
    combV x g b (ix2 e t) = weight (tokenProb x g b t) e := by
  have h : combV x g b (ix2 e t)
      = Scalar.select (k0_pay9 rowIota (k0_pay8 x g b) (ix2 e t)) (k0_pay7 x g b (ix2 0 t)) 0
        + Scalar.select (k0_pay12 (k0_pay5 x g b) rowIota (k0_pay8 x g b) (ix2 e t))
          (Finset.univ.fold max (Ideal.ofBits FTy.f32 4286578688#32) (fun k : Fin 8 =>
            Scalar.select (k0_pay9 rowIota (k0_pay8 x g b) (ix2 k t)) (Ideal.ofBits FTy.f32 4286578688#32) (k0_pay5 x g b (ix2 k t)))) 0 := by
    pointwise [combV, k0_pay13, k0_pay11, k0_pay10]
  have h7 : k0_pay7 x g b (ix2 0 t) = Finset.univ.fold max (Ideal.ofBits FTy.f32 4286578688#32) (fun k : Fin 8 => k0_pay5 x g b (ix2 k t)) := by
    pointwise [k0_pay7]
  have h2 : struck (tokenProb x g b t) (second (tokenProb x g b t)) = tokenProb x g b t (second (tokenProb x g b t)) :=
    if_neg (second_ne_best _)
  rw [h, h7]
  simp only [select_struck]
  simp only [pay5_eq]
  rw [ofBits_bot, fold_max_eq, fold_max_eq, best_struck _ hp, h2, pay9_eq, pay12_eq x g b t hp]
  unfold weight Scalar.select
  congr 1 <;> split <;> simp_all

/-- Which experts a token is routed to, counted. -/
theorem hit_eq (t : Fin 1024) (hp : ∀ k, ⊥ < tokenProb x g b t k) (e : Fin 8) :
    FloatOps.sitofp (F := Ideal) .f32 (BitVec.setWidth 32 (IntOp.ori (k0_pay9 rowIota (k0_pay8 x g b) (ix2 e t))
      (k0_pay12 (k0_pay5 x g b) rowIota (k0_pay8 x g b) (ix2 e t)))) = hit (tokenProb x g b t) e := by
  rw [pay9_eq, pay12_eq x g b t hp]
  have hne : ¬ second (tokenProb x g b t) = best (tokenProb x g b t) := second_ne_best _
  have h0 : FloatOps.sitofp (F := Ideal) .f32 (BitVec.setWidth 32 (IntOp.ori 0#1 0#1)) = (0 : EReal) := by
    show (((BitVec.setWidth 32 (IntOp.ori 0#1 0#1)).toInt : ℝ) : EReal) = 0
    simp [IntOp.ori]
  have h1 : ∀ v : BitVec 1, v = IntOp.ori 1#1 0#1 ∨ v = IntOp.ori 0#1 1#1 → FloatOps.sitofp (F := Ideal) .f32 (BitVec.setWidth 32 v) = (1 : EReal) := by
    intro v hv
    have : v = 1#1 := by rcases hv with rfl | rfl <;> decide
    subst this
    show (((BitVec.setWidth 32 1#1).toInt : ℝ) : EReal) = 1
    have : (BitVec.setWidth 32 1#1).toInt = 1 := by decide
    rw [this]; norm_num
  unfold hit
  by_cases a : e = best (tokenProb x g b t)
  · rw [if_pos a, if_neg (fun h => hne (h.symm.trans a)), if_pos a, if_neg (fun h => hne (h.symm.trans a)), h1 _ (.inl rfl), add_zero]
  · by_cases a' : e = second (tokenProb x g b t)
    · rw [if_neg a, if_pos a', if_neg a, if_pos a', h1 _ (.inr rfl), zero_add]
    · rw [if_neg a, if_neg a', if_neg a, if_neg a', h0, add_zero]

/-- The statistics' first column after a tile: the counts. -/
theorem statV_count (st : Vec Ideal S8x128 .f32) (hp : ∀ t k, ⊥ < tokenProb x g b t k) (e : Fin 8) :
    statV x g b st (ix2 e 0) = st (ix2 e 0) + ∑ t : Fin 1024, hit (tokenProb x g b t) e := by
  have h : statV x g b st (ix2 e 0) = st (ix2 e 0)
      + ∑ t : Fin 1024, FloatOps.sitofp (F := Ideal) .f32 (BitVec.setWidth 32 (IntOp.ori (k0_pay9 rowIota (k0_pay8 x g b) (ix2 e t))
      (k0_pay12 (k0_pay5 x g b) rowIota (k0_pay8 x g b) (ix2 e t)))) := by
    pointwise [statV, k0_pay15, k0_pay14]
    rfl
  rw [h]
  congr 1
  exact Finset.sum_congr rfl fun t _ => hit_eq x g b t (hp t) e

/-- The statistics' second column after a tile: an eighth of the tile's entropy in every row. -/
theorem statV_entropy (st : Vec Ideal S8x128 .f32) (e : Fin 8) :
    statV x g b st (ix2 e 1) = st (ix2 e 1)
      + Ideal.div (0 - ∑ e : Fin 8, ∑ t : Fin 1024, plogp (tokenProb x g b t e)) (Ideal.ofBits FTy.f32 1090519040#32) := by
  rw [← pay6_eq]
  pointwise [statV, k0_pay15, k0_pay14]

/-- The statistics start at zero. -/
theorem pay3_eq (e : Fin 8) (j : Fin 128) : k0_pay3 (F := Ideal) (ix2 e j) = 0 := by
  pointwise [k0_pay3]

/-- The second result, from the statistics. -/
theorem pay2_eq (st : Vec Ideal S8x128 .f32) :
    k0_pay2 st (ix2 0 0) = Ideal.div (Ideal.ofBits FTy.f32 1028443341#32 * ∑ e : Fin 8, st (ix2 e 1)) (Ideal.ofBits FTy.f32 1157627904#32)
      + ∑ e : Fin 8, max (Ideal.div (st (ix2 e 0)) (Ideal.ofBits FTy.f32 1157627904#32) - Ideal.ofBits FTy.f32 1053609165#32) 0 := by
  have h : k0_pay2 st (ix2 0 0) = Ideal.div (Ideal.ofBits FTy.f32 1028443341#32 * ∑ e : Fin 8, ∑ _j : Fin 1, st (ix2 e 1)) (Ideal.ofBits FTy.f32 1157627904#32)
      + ∑ e : Fin 8, ∑ _j : Fin 1, max (Ideal.div (st (ix2 e 0)) (Ideal.ofBits FTy.f32 1157627904#32) - Ideal.ofBits FTy.f32 1053609165#32) 0 := by
    pointwise [k0_pay2]
  rw [h]
  simp only [Fin.sum_univ_one]

/-- The tile of the first result before the weights are put in. -/
theorem outV_read (eb : Vec Ideal S8x768 .f32) (w : Vec Ideal S8x768x768 .f32) (r : Fin 1024) (d : Fin 768) :
    outV x g b eb w (ix2 r d) = ∑ e : Fin 8, combV x g b (ix2 e r) * eb (ix2 e d)
      + combV x g b (ix2 0 r) * ∑ k : Fin 768, x (ix2 r k) * slab0 w (ix3 0 d k)
      + combV x g b (ix2 1 r) * ∑ k : Fin 768, x (ix2 r k) * slab1 w (ix3 0 d k)
      + combV x g b (ix2 2 r) * ∑ k : Fin 768, x (ix2 r k) * slab2 w (ix3 0 d k)
      + combV x g b (ix2 3 r) * ∑ k : Fin 768, x (ix2 r k) * slab3 w (ix3 0 d k)
      + combV x g b (ix2 4 r) * ∑ k : Fin 768, x (ix2 r k) * slab4 w (ix3 0 d k)
      + combV x g b (ix2 5 r) * ∑ k : Fin 768, x (ix2 r k) * slab5 w (ix3 0 d k)
      + combV x g b (ix2 6 r) * ∑ k : Fin 768, x (ix2 r k) * slab6 w (ix3 0 d k)
      + combV x g b (ix2 7 r) * ∑ k : Fin 768, x (ix2 r k) * slab7 w (ix3 0 d k) := by
  pointwise [outV, k0_pay1, k0_pay17, k0_pay18, k0_pay19, k0_pay4, k0_pay16, k0_pay20, k0_pay21]

/-- The tile of the first result: each expert's output and bias, weighted. -/
theorem outV_eq (eb : Vec Ideal S8x768 .f32) (w : Vec Ideal S8x768x768 .f32) (r : Fin 1024) (d : Fin 768) {q : Fin 8 → ℝ}
    (hq : ∀ e, tokenProb x g b r e = (q e : EReal)) (h0 : ∀ e, 0 ≤ q e) :
    outV x g b eb w (ix2 r d)
      = ∑ e : Fin 8, weight (tokenProb x g b r) e * (∑ k : Fin 768, x (ix2 r k) * w (ix3 e d k) + eb (ix2 e d)) := by
  have hp : ∀ k, ⊥ < tokenProb x g b r k := fun k => by rw [hq k]; exact EReal.bot_lt_coe _
  have s0 : ∀ k, slab0 w (ix3 0 d k) = w (ix3 0 d k) := fun k => by pointwise [slab0]
  have s1 : ∀ k, slab1 w (ix3 0 d k) = w (ix3 1 d k) := fun k => by pointwise [slab1]
  have s2 : ∀ k, slab2 w (ix3 0 d k) = w (ix3 2 d k) := fun k => by pointwise [slab2]
  have s3 : ∀ k, slab3 w (ix3 0 d k) = w (ix3 3 d k) := fun k => by pointwise [slab3]
  have s4 : ∀ k, slab4 w (ix3 0 d k) = w (ix3 4 d k) := fun k => by pointwise [slab4]
  have s5 : ∀ k, slab5 w (ix3 0 d k) = w (ix3 5 d k) := fun k => by pointwise [slab5]
  have s6 : ∀ k, slab6 w (ix3 0 d k) = w (ix3 6 d k) := fun k => by pointwise [slab6]
  have s7 : ∀ k, slab7 w (ix3 0 d k) = w (ix3 7 d k) := fun k => by pointwise [slab7]
  rw [outV_read]
  simp only [combV_eq x g b r hp, s0, s1, s2, s3, s4, s5, s6, s7]
  rw [Finset.sum_congr rfl fun e _ => weight_mul_add hq h0 e _ _, Finset.sum_add_distrib]
  rw [Fin.sum_univ_eight (fun e => weight (tokenProb x g b r) e * ∑ k : Fin 768, x (ix2 r k) * w (ix3 e d k))]
  rw [add_comm (_ + _) (∑ e : Fin 8, weight (tokenProb x g b r) e * eb (ix2 e d))]
  simp only [add_assoc]

end Cert.KernelIdeal.Tile
-- ==== Proof.Router.Layer.lean ====
/- The layer's two results as formulas in the tokens' probabilities, and the second as two tiles of 1024 tokens accumulate it. -/
module

public import proofs.«01_k».proof.Proof.Router.Soft

@[expose] public section

noncomputable section

namespace Cert.Router

open Idealize.ShloMosaic

/-- The first result at token `t` and coordinate `d`: the experts' outputs and biases, weighted. -/
def layerOut (p : Fin 2048 → Fin 8 → EReal) (x : Fin 2048 → Fin 768 → EReal) (w : Fin 8 → Fin 768 → Fin 768 → EReal)
    (b : Fin 8 → Fin 768 → EReal) (t : Fin 2048) (d : Fin 768) : EReal :=
  ∑ e : Fin 8, weight (p t) e * (∑ k : Fin 768, x t k * w e d k + b e d)

/-- The second result: a small multiple of the mean entropy, and each expert's load above its allowance. -/
def layerAux (p : Fin 2048 → Fin 8 → EReal) : EReal :=
  Ideal.ofBits FTy.f32 1028443341#32 * -(Ideal.div (∑ t : Fin 2048, ∑ e : Fin 8, plogp (p t e)) (Ideal.ofBits FTy.f32 1157627904#32))
    + ∑ e : Fin 8, max (Ideal.div (∑ t : Fin 2048, hit (p t) e) (Ideal.ofBits FTy.f32 1157627904#32)
      - Ideal.ofBits FTy.f32 1053609165#32) 0

/-- Token `r` of the first tile. -/
abbrev inTile0 (r : Fin 1024) : Fin 2048 := ⟨r.val, by omega⟩

/-- Token `r` of the second tile. -/
abbrev inTile1 (r : Fin 1024) : Fin 2048 := ⟨1024 + r.val, by omega⟩

/-- A sum over the tokens is the two tiles' sums. -/
theorem sum_tiles {M : Type} [AddCommMonoid M] (f : Fin 2048 → M) :
    ∑ t : Fin 2048, f t = ∑ r : Fin 1024, f (inTile0 r) + ∑ r : Fin 1024, f (inTile1 r) :=
  Fin.sum_univ_add (a := 1024) (b := 1024) f

/-- The bit pattern of 8. -/
theorem ofBits_8 : Ideal.ofBits FTy.f32 1090519040#32 = ((8 : ℝ) : EReal) := by
  simp [Ideal.ofBits, Ideal.ieee, -EReal.coe_mul]; norm_num

/-- The bit pattern of 2048. -/
theorem ofBits_2048 : Ideal.ofBits FTy.f32 1157627904#32 = ((2048 : ℝ) : EReal) := by
  simp [Ideal.ofBits, Ideal.ieee, -EReal.coe_mul]; norm_num

/-- The entropy's coefficient is real. -/
theorem coeff_real : IsReal (Ideal.ofBits FTy.f32 1028443341#32) := by
  refine ⟨_, by simp only [Ideal.ofBits, Ideal.ieee]; simp [-EReal.coe_mul]; rfl⟩

/-- The entropy of two tiles, each divided among eight rows of statistics and added up over them, is the entropy of all the tokens. -/
theorem entropy_tiles (p : Fin 2048 → Fin 8 → EReal) (hp : ∀ t e, ∃ r : ℝ, p t e = (r : EReal) ∧ 0 ≤ r) :
    Ideal.div (Ideal.ofBits FTy.f32 1028443341#32 * ∑ _e : Fin 8,
        (0 + Ideal.div (0 - ∑ e : Fin 8, ∑ r : Fin 1024, plogp (p (inTile0 r) e)) (Ideal.ofBits FTy.f32 1090519040#32)
          + Ideal.div (0 - ∑ e : Fin 8, ∑ r : Fin 1024, plogp (p (inTile1 r) e)) (Ideal.ofBits FTy.f32 1090519040#32)))
        (Ideal.ofBits FTy.f32 1157627904#32)
      = Ideal.ofBits FTy.f32 1028443341#32 * -(Ideal.div (∑ t : Fin 2048, ∑ e : Fin 8, plogp (p t e)) (Ideal.ofBits FTy.f32 1157627904#32)) := by
  have hr : ∀ t e, IsReal (plogp (p t e)) := fun t e => by
    obtain ⟨r, h, h0⟩ := hp t e
    rw [h]
    exact plogp_real h0
  choose q hq using hr
  obtain ⟨k, hk⟩ := coeff_real
  rw [sum_tiles (fun t => ∑ e : Fin 8, plogp (p t e)), Finset.sum_comm (γ := Fin 1024) (s := Finset.univ) (t := Finset.univ),
    Finset.sum_comm (γ := Fin 1024) (s := Finset.univ) (t := Finset.univ)]
  simp only [hq, coe_sum, hk, ofBits_8, ofBits_2048]
  generalize (∑ e : Fin 8, ∑ r : Fin 1024, q (inTile0 r) e) = a
  generalize (∑ e : Fin 8, ∑ r : Fin 1024, q (inTile1 r) e) = b
  rw [zero_add, zero_sub, zero_sub, ← EReal.coe_add, ← EReal.coe_neg, ← EReal.coe_neg]
  simp only [Ideal.div_coe (show (8 : ℝ) ≠ 0 by norm_num), Ideal.div_coe (show (2048 : ℝ) ≠ 0 by norm_num), ← EReal.coe_mul, ← EReal.coe_add, coe_sum,
    ← EReal.coe_neg]
  congr 1
  rw [Finset.sum_const, Finset.card_univ, Fintype.card_fin]
  simp only [nsmul_eq_mul]
  push_cast
  ring

/-- The second result, as the two tiles accumulate it. -/
theorem aux_tiles (p : Fin 2048 → Fin 8 → EReal) (hp : ∀ t e, ∃ r : ℝ, p t e = (r : EReal) ∧ 0 ≤ r) :
    Ideal.div (Ideal.ofBits FTy.f32 1028443341#32 * ∑ _e : Fin 8,
        (0 + Ideal.div (0 - ∑ e : Fin 8, ∑ r : Fin 1024, plogp (p (inTile0 r) e)) (Ideal.ofBits FTy.f32 1090519040#32)
          + Ideal.div (0 - ∑ e : Fin 8, ∑ r : Fin 1024, plogp (p (inTile1 r) e)) (Ideal.ofBits FTy.f32 1090519040#32)))
        (Ideal.ofBits FTy.f32 1157627904#32)
      + ∑ e : Fin 8, max (Ideal.div (0 + ∑ r : Fin 1024, hit (p (inTile0 r)) e + ∑ r : Fin 1024, hit (p (inTile1 r)) e)
        (Ideal.ofBits FTy.f32 1157627904#32) - Ideal.ofBits FTy.f32 1053609165#32) 0
      = layerAux p := by
  unfold layerAux
  rw [entropy_tiles p hp]
  simp only [zero_add, sum_tiles (fun t => hit (p t) _)]

end Cert.Router
-- ==== Proof.KernelIdeal.Arrays.lean ====
/- The arrays of the launch: each window's block at coordinates, the output arrays when the run ends, and the kernel's two results
   as formulas in its arguments. -/
module

public import proofs.«01_k».proof.Proof.KernelIdeal.Launch
public import proofs.«01_k».proof.Proof.KernelIdeal.Tile
public import proofs.«01_k».proof.Proof.Router.Layer
public import Idealize.ShloMosaic.Lib.Pipeline.ValueKit

@[expose] public section

set_option maxRecDepth 16384

noncomputable section

namespace Cert.KernelIdeal.Arrays

open Cert.KernelIdeal Cert.KernelIdeal.Gen Cert.KernelIdeal.Hand Cert.Router
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-! ## The host's reshapes around the region -/

/-- The tokens, as the region finds them. -/
theorem V_tokens (c : Dev nD) : V m c main_v0 = shapeCast S2048x768 (m ((c : Thread nD τ).loc main_arg0)) shapeCasts_S1x2048x768_S2048x768 := by
  show StableHlo.after (List.flatten [hostOps0]) (fun b => m (c, b)) (Proc.devRef .tc main_v0) = _
  simp only [hostOps0, List.flatten_cons, List.flatten_nil, List.append_nil, List.cons_append, List.nil_append, StableHlo.after_cons, StableHlo.after_nil]
  rw [StableHlo.reshape_result_ne' (h := by decide), StableHlo.reshape_result']
  rfl

/-- The gate's biases, as the region finds them. -/
theorem V_biases (c : Dev nD) : V m c main_v1 = shapeCast S8x1 (m ((c : Thread nD τ).loc main_arg2)) shapeCasts_S8_S8x1 := by
  show StableHlo.after (List.flatten [hostOps0]) (fun b => m (c, b)) (Proc.devRef .tc main_v1) = _
  simp only [hostOps0, List.flatten_cons, List.flatten_nil, List.append_nil, List.cons_append, List.nil_append, StableHlo.after_cons, StableHlo.after_nil]
  rw [StableHlo.reshape_result', StableHlo.reshape_result_ne' (h := by decide)]
  rfl

/-- The first result: the first output array, reshaped. -/
theorem tail_first (c : Dev nD) : Pipeline.afterTail₀ cfgs (dats m) 0 (V0 m) [hostOps1] c main_v3
    = shapeCast S1x2048x768 ((dats m 0 c).arrAt 4 cfg0.N) shapeCasts_S2048x768_S1x2048x768 := by
  unfold Pipeline.afterTail₀
  simp only [hostOps1, List.flatten_cons, List.flatten_nil, List.append_nil, List.cons_append, List.nil_append, StableHlo.after_cons, StableHlo.after_nil]
  rw [StableHlo.reshape_result_ne' (h := by decide), StableHlo.reshape_result']
  show shapeCast S1x2048x768 (Pipeline.withArrays spec0 c (V0 m c) (fun w => (dats m 0 c).arrAt w cfg0.N) (Proc.devRef .tc (Pipeline.arrRef spec0 4))) _ = _
  rw [Pipeline.withArrays_arr spec0 (by decide)]

/-- The second result: the second output array, reshaped. -/
theorem tail_second (c : Dev nD) : Pipeline.afterTail₀ cfgs (dats m) 0 (V0 m) [hostOps1] c main_v4
    = shapeCast S_ ((dats m 0 c).arrAt 5 cfg0.N) shapeCasts_S1x1_S_ := by
  unfold Pipeline.afterTail₀
  simp only [hostOps1, List.flatten_cons, List.flatten_nil, List.append_nil, List.cons_append, List.nil_append, StableHlo.after_cons, StableHlo.after_nil]
  rw [StableHlo.reshape_result', StableHlo.reshape_result_ne' (h := by decide)]
  show shapeCast S_ (Pipeline.withArrays spec0 c (V0 m c) (fun w => (dats m 0 c).arrAt w cfg0.N) (Proc.devRef .tc (Pipeline.arrRef spec0 5))) _ = _
  rw [Pipeline.withArrays_arr spec0 (by decide)]

/-! ## The arguments -/

/-- Coordinate `k` of token `t`. -/
def tok (c : Dev nD) (t : Fin 2048) (k : Fin 768) : EReal := (m ((c : Thread nD τ).loc main_arg0) : Vec Ideal S1x2048x768 .f32) (ix3 0 t k)

/-- The gate's weight of expert `e` at coordinate `k`. -/
def gateW (c : Dev nD) (e : Fin 8) (k : Fin 768) : EReal := (m ((c : Thread nD τ).loc main_arg1) : Vec Ideal S8x768 .f32) (ix2 e k)

/-- The gate's bias of expert `e`. -/
def gateB (c : Dev nD) (e : Fin 8) : EReal := (m ((c : Thread nD τ).loc main_arg2) : Vec Ideal S8 .f32) (ix1 e)

/-- The weight of expert `e` at row `d` and coordinate `k`. -/
def expW (c : Dev nD) (e : Fin 8) (d k : Fin 768) : EReal := (m ((c : Thread nD τ).loc main_arg3) : Vec Ideal S8x768x768 .f32) (ix3 e d k)

/-- The bias of expert `e` at coordinate `d`. -/
def expB (c : Dev nD) (e : Fin 8) (d : Fin 768) : EReal := (m ((c : Thread nD τ).loc main_arg4) : Vec Ideal S8x768 .f32) (ix2 e d)

/-- The probabilities of token `t`. -/
def probs (c : Dev nD) (t : Fin 2048) : Fin 8 → EReal := prob (gateW m c) (gateB m c) (tok m c t)

/-- The tokens and the gate's weights and biases are real. -/
structure RealRouter (c : Dev nD) : Prop where
  tok : ∀ t k, IsReal (tok m c t k)
  gateW : ∀ e k, IsReal (gateW m c e k)
  gateB : ∀ e, IsReal (gateB m c e)

variable {m} in
/-- Then the probabilities are nonnegative reals. -/
theorem RealRouter.probs {c : Dev nD} (h : RealRouter m c) (t : Fin 2048) :
    ∃ r : Fin 8 → ℝ, (∀ e, probs m c t e = (r e : EReal)) ∧ ∀ e, 0 ≤ r e :=
  prob_real h.gateW h.gateB (h.tok t)

/-! ## The windows' blocks -/

/-- The first output's block and the tokens' move along the tokens. -/
theorem moves : ∀ t : Fin cfg0.N, ((cfg0.win 0).index t 0 = t.val ∧ (cfg0.win 0).index t 1 = 0)
    ∧ ((cfg0.win 4).index t 0 = t.val ∧ (cfg0.win 4).index t 1 = 0) := by decide +kernel

/-- The other inputs' blocks stay. -/
theorem stays : ∀ t : Fin cfg0.N, ((cfg0.win 1).index t 0 = 0 ∧ (cfg0.win 1).index t 1 = 0)
    ∧ ((cfg0.win 2).index t 0 = 0 ∧ (cfg0.win 2).index t 1 = 0) ∧ ((cfg0.win 3).index t 0 = 0 ∧ (cfg0.win 3).index t 1 = 0) := by decide +kernel

/-- Row `r` of the tile of point `t`. -/
def row (t : Fin cfg0.N) (r : Fin 1024) : Fin 2048 :=
  ⟨t.val * 1024 + r.val, by have h : t.val < 2 := Nat.lt_of_lt_of_eq t.isLt N_0; omega⟩

/-- The tokens' block. -/
theorem block_tok (c : Dev nD) (t : Fin cfg0.N) (r : Fin 1024) (k : Fin 768) : iblk m c 0 t (ix2 r k) = tok m c (row t r) k := by
  have h : iblk m c 0 t (ix2 r k) = (V m c main_v0 : Vec Ideal S2048x768 .f32) (ix2 (row t r) k) := by
    unfold row
    blk_ext [iblk, (moves t).1]
  rw [h, V_tokens]
  exact shapeCast_apply _ shapeCasts_S1x2048x768_S2048x768 (ix2 (row t r) k) (ix3 0 (row t r) k)
    (by rw [Shape.rowMajor_val_three, Shape.rowMajor_val_two]; show (0 * 2048 + (row t r).val) * 768 + k.val = (row t r).val * 768 + k.val; omega)

/-- The gate's weights' block. -/
theorem block_gateW (c : Dev nD) (t : Fin cfg0.N) (e : Fin 8) (k : Fin 768) : iblk m c 1 t (ix2 e k) = gateW m c e k := by
  unfold gateW
  rw [← V_main_arg1 m c]
  blk_ext [iblk, (stays t).1]

/-- The gate's biases' block. -/
theorem block_gateB (c : Dev nD) (t : Fin cfg0.N) (e : Fin 8) : iblk m c 2 t (ix2 e 0) = gateB m c e := by
  have h : iblk m c 2 t (ix2 e 0) = (V m c main_v1 : Vec Ideal S8x1 .f32) (ix2 e 0) := by
    blk_ext [iblk, (stays t).2.1]
  rw [h, V_biases]
  exact shapeCast_apply _ shapeCasts_S8_S8x1 (ix2 e 0) (ix1 e)
    (by rw [Shape.rowMajor_val_one, Shape.rowMajor_val_two]; show e.val = e.val * 1 + 0; omega)

/-- The experts' biases' block. -/
theorem block_expB (c : Dev nD) (t : Fin cfg0.N) (e : Fin 8) (d : Fin 768) : iblk m c 3 t (ix2 e d) = expB m c e d := by
  unfold expB
  rw [← V_main_arg4 m c]
  blk_ext [iblk, (stays t).2.2]

/-- The experts' weights. -/
theorem experts_apply (c : Dev nD) (e : Fin 8) (d k : Fin 768) : experts m c (ix3 e d k) = expW m c e d k := by
  unfold expW
  rw [← V_main_arg3 m c]
  rfl

/-- The probabilities of a tile's token. -/
theorem tile_probs (c : Dev nD) (t : Fin cfg0.N) (r : Fin 1024) :
    Tile.tokenProb (iblk m c 0 t) (iblk m c 1 t) (iblk m c 2 t) r = probs m c (row t r) := by
  unfold Tile.tokenProb probs
  rw [show (fun k => iblk m c 0 t (ix2 r k)) = tok m c (row t r) from funext (block_tok m c t r),
    show (fun e k => iblk m c 1 t (ix2 e k)) = gateW m c from funext fun e => funext (block_gateW m c t e),
    show (fun e => iblk m c 2 t (ix2 e 0)) = gateB m c from funext (block_gateB m c t)]

/-! ## The first result -/

/-- A tile of the first result at coordinates. -/
theorem tileOut_apply (c : Dev nD) (hr : RealRouter m c) (t : Fin cfg0.N) (r : Fin 1024) (d : Fin 768) :
    tileOut m c t (ix2 r d) = layerOut (probs m c) (tok m c) (expW m c) (expB m c) (row t r) d := by
  obtain ⟨q, hq, h0⟩ := hr.probs (row t r)
  unfold tileOut
  rw [Tile.outV_eq (iblk m c 0 t) (iblk m c 1 t) (iblk m c 2 t) (iblk m c 3 t) (experts m c) r d
    (q := q) (fun e => by rw [tile_probs]; exact hq e) h0]
  unfold layerOut
  simp only [tile_probs, block_tok, block_expB]
  exact Finset.sum_congr rfl fun e _ => congrArg (fun v => weight (probs m c (row t r)) e * (v + expB m c e d))
    (Finset.sum_congr rfl fun k _ => congrArg (tok m c (row t r) k * ·) (experts_apply m c e d k))

/-- The first output array when the run ends. -/
def outArr (c : Dev nD) : Vec Ideal S2048x768 .f32 :=
  fun i => layerOut (probs m c) (tok m c) (expW m c) (expB m c) (i 0) (i 1)

/-- Where a tile's element lies in the array. -/
theorem emb_out (t : Fin cfg0.N) (r : Fin 1024) (d : Fin 768) :
    ((cfg0.win 4).blk t).view.emb (ix2 r d : S1024x768.Idx) = (ix2 (row t r) d : S2048x768.Idx) := by
  unfold row
  blk_ext [(moves t).2]

/-- The run leaves the first output array at the layer's first result. -/
theorem out_array (c : Dev nD) (hr : RealRouter m c) : (dats m 0 c).arrAt 4 cfg0.N = outArr m c := by
  refine (dats m 0 c).arrAt_eq_of_covers 4 _ (by decide +kernel) fun t hf y => ?_
  have key : ∀ y : S1024x768.Idx, tileOut m c t y = outArr m c (((cfg0.win 4).blk t).view.emb y) := fun y => by
    obtain ⟨r, d, rfl⟩ : ∃ (r : Fin 1024) (d : Fin 768), y = (ix2 r d : S1024x768.Idx) := ⟨y 0, y 1, eq_ix2 y⟩
    rw [tileOut_apply m c hr, emb_out]
    rfl
  blk_simp
  exact key y

/-- The first result. -/
theorem first_result (c : Dev nD) (hr : RealRouter m c) (t : Fin 2048) (d : Fin 768) :
    shapeCast S1x2048x768 ((dats m 0 c).arrAt 4 cfg0.N : Vec Ideal S2048x768 .f32) shapeCasts_S2048x768_S1x2048x768 (ix3 0 t d)
      = layerOut (probs m c) (tok m c) (expW m c) (expB m c) t d := by
  rw [out_array m c hr]
  have h : shapeCast S1x2048x768 (outArr m c) shapeCasts_S2048x768_S1x2048x768 (ix3 0 t d) = outArr m c (ix2 t d) := by pointwise
  rw [h]
  rfl

/-! ## The second result -/

/-- The first and the last point. -/
def pt0 : Fin cfg0.N := ⟨0, Nat.lt_of_lt_of_eq Nat.two_pos N_0.symm⟩
def pt1 : Fin cfg0.N := ⟨1, Nat.lt_of_lt_of_eq Nat.one_lt_two N_0.symm⟩

/-- The statistics after the last point. -/
theorem stat_last (c : Dev nD) : statAt m c pt1.val pt1.isLt
    = statV (iblk m c 0 pt1) (iblk m c 1 pt1) (iblk m c 2 pt1) (statV (iblk m c 0 pt0) (iblk m c 1 pt0) (iblk m c 2 pt0) (k0_pay3 (F := Ideal))) := rfl

/-- Rows of the two points' tiles. -/
theorem row_pt0 (r : Fin 1024) : row pt0 r = inTile0 r := Fin.ext (by show 0 * 1024 + r.val = r.val; omega)
theorem row_pt1 (r : Fin 1024) : row pt1 r = inTile1 r := Fin.ext (by show 1 * 1024 + r.val = 1024 + r.val; omega)

/-- The second result. -/
theorem second_result (c : Dev nD) (hr : RealRouter m c) :
    shapeCast S_ ((dats m 0 c).arrAt 5 cfg0.N : Vec Ideal S1x1 .f32) shapeCasts_S1x1_S_ ix0 = layerAux (probs m c) := by
  have ha : (dats m 0 c).arrAt 5 cfg0.N = k0_pay2 (statAt m c pt1.val pt1.isLt) := by
    refine (dats m 0 c).arrAt_eq_of_after_last 5 pt1 (by decide +kernel) _ fun j => ?_
    blk_simp
    rfl
  rw [ha]
  have h : shapeCast S_ (k0_pay2 (statAt m c pt1.val pt1.isLt)) shapeCasts_S1x1_S_ ix0 = k0_pay2 (statAt m c pt1.val pt1.isLt) (ix2 0 0) := by pointwise
  have hp : ∀ (t : Fin cfg0.N) (r : Fin 1024) (k : Fin 8), ⊥ < Tile.tokenProb (iblk m c 0 t) (iblk m c 1 t) (iblk m c 2 t) r k := fun t r k => by
    obtain ⟨q, hq, _⟩ := hr.probs (row t r)
    rw [tile_probs, hq k]
    exact EReal.bot_lt_coe _
  rw [h, Tile.pay2_eq, stat_last]
  simp only [Tile.statV_count _ _ _ _ (hp pt1), Tile.statV_count _ _ _ _ (hp pt0), Tile.statV_entropy, Tile.pay3_eq, tile_probs, row_pt0, row_pt1]
  refine aux_tiles (probs m c) fun t e => ?_
  obtain ⟨q, hq, h0⟩ := hr.probs t
  exact ⟨q e, hq e, h0 e⟩

/-! ## The run -/

/-- Every execution ends with the two results at the reshaped output arrays, the arguments unchanged. -/
theorem run_results : θ_run defs (onTc (τ := τ) (main (F := Ideal))) ⟨m, fun _ => 0, ρ⟩ (fun r => ∀ c : Dev nD,
      r.2.mem ((c.tc : Thread nD τ).loc main_v3) = shapeCast S1x2048x768 ((dats m 0 c).arrAt 4 cfg0.N) shapeCasts_S2048x768_S1x2048x768
      ∧ r.2.mem ((c.tc : Thread nD τ).loc main_v4) = shapeCast S_ ((dats m 0 c).arrAt 5 cfg0.N) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2 c).2 main_v3 (Pipeline.mem_restRefs_of main_v3 (by decide) (by decide))).trans (tail_first m c),
    ((h.2 c).2 main_v4 (Pipeline.mem_restRefs_of main_v4 (by decide) (by decide))).trans (tail_second m c), h.1.1 c⟩)
    (θ_run_and (frame m ρ) (run m ρ))

end Cert.KernelIdeal.Arrays

end
-- ==== Proof.ReferenceIdeal.Stages.lean ====
/- The reference's stages at coordinates: a token's probabilities, its two experts, the routing weights, and the two results. -/
module

public import proofs.«01_k».proof.Proof.Gen.ReferenceIdeal.Read
public import proofs.«01_k».proof.Proof.Router.Soft
public import Idealize.ShloMosaic.Lib.Pointwise

@[expose] public section

set_option maxRecDepth 16384

noncomputable section

namespace Cert.ReferenceIdeal.Stages

open Idealize.ShloMosaic Cert.ReferenceIdeal Cert.ReferenceIdeal.Gen Cert.ReferenceIdeal.Read Cert.Router

/-- The bit pattern of minus infinity. -/
theorem ofBits_bot : Ideal.ofBits FTy.f32 4286578688#32 = ⊥ := by simp [Ideal.ofBits, Ideal.ieee]

/-- The bit pattern of zero. -/
theorem ofBits_zero : Ideal.ofBits FTy.f32 0#32 = 0 := by simp [Ideal.ofBits, Ideal.ieee]

/-- Replacing the column of an index of a table of eight columns. -/
theorem along_col (t : Fin 2048) (e e' : Fin 8) : Shape.Idx.along (s := S2048x8) (ix2 t e) 1 e' = ix2 t e' := by
  funext a
  unfold Shape.Idx.along
  match a with
  | ⟨0, _⟩ => exact Function.update_of_ne (fun h => Nat.zero_ne_one (congrArg Fin.val h)) _ _
  | ⟨1, _⟩ => exact Function.update_self _ _ _

/-- The comparator of the sort is "greater". -/
theorem gt_eq (x y : EReal) : (FloatOps.cmpfTotal (F := Ideal) (φ := .f32) CmpDirection.gt x y == 1#1) = decide (y < x) := by
  show (BitVec.ofBool (decide (y < x)) == 1#1) = decide (y < x)
  cases decide (y < x) <;> rfl

/-- The values and indices a top-2 of eight columns gives: those the stable sort of the row puts first. -/
theorem topK_eq (x : FVec Ideal S2048x8 .f32) (t : Fin 2048) (k : Fin 2) :
    (Host.topK S2048x2 1 (FloatOps.cmpfTotal CmpDirection.gt) x sliceFits_S2048x8_S2048x2).1 (ix2 t k)
        = x (ix2 t (sortedFrom (greater fun e => x (ix2 t e)) (k.castLE (by decide))))
      ∧ (Host.topK S2048x2 1 (FloatOps.cmpfTotal CmpDirection.gt) x sliceFits_S2048x8_S2048x2).2 (ix2 t k)
        = BitVec.ofNat 32 (sortedFrom (greater fun e => x (ix2 t e)) (k.castLE (by decide))).val := by
  have hk : ∀ a : Fin S2048x8.rank, ((ix2 t (k.castLE (by decide : 2 ≤ 8)) : S2048x8.Idx) a).val
      = 0 + ((ix2 t k : S2048x2.Idx) (a.cast sliceFits_S2048x8_S2048x2.1.symm)).val := by
    intro a
    match a with
    | ⟨0, _⟩ => exact (Nat.zero_add _).symm
    | ⟨1, _⟩ => exact (Nat.zero_add _).symm
  have hg : (fun a b : Fin 8 => (FloatOps.cmpfTotal (F := Ideal) (φ := .f32) CmpDirection.gt
      (x (Shape.Idx.along (s := S2048x8) (ix2 t (k.castLE (by decide : 2 ≤ 8))) 1 a))
      (x (Shape.Idx.along (s := S2048x8) (ix2 t (k.castLE (by decide : 2 ≤ 8))) 1 b)) == 1#1)) = greater fun e => x (ix2 t e) := by
    funext a b
    rw [along_col, along_col, gt_eq]
    rfl
  constructor
  · unfold Host.topK
    dsimp only
    refine (extractStridedSlice_apply _ _ _ _ (ix2 t (k.castLE (by decide : 2 ≤ 8))) hk).trans ?_
    show x (Shape.Idx.along (s := S2048x8) (ix2 t (k.castLE (by decide : 2 ≤ 8))) 1 (sortedFrom (fun a b : Fin 8 =>
      (FloatOps.cmpfTotal (F := Ideal) (φ := .f32) CmpDirection.gt
      (x (Shape.Idx.along (s := S2048x8) (ix2 t (k.castLE (by decide : 2 ≤ 8))) 1 a))
      (x (Shape.Idx.along (s := S2048x8) (ix2 t (k.castLE (by decide : 2 ≤ 8))) 1 b)) == 1#1)) _)) = _
    rw [hg]
    exact congrArg x (along_col t _ _)
  · unfold Host.topK
    dsimp only
    refine (extractStridedSlice_apply _ _ _ _ (ix2 t (k.castLE (by decide : 2 ≤ 8))) hk).trans ?_
    show BitVec.ofNat 32 (Shape.Idx.along (s := S2048x8) (ix2 t (k.castLE (by decide : 2 ≤ 8))) 1 (sortedFrom (fun a b : Fin 8 =>
      (FloatOps.cmpfTotal (F := Ideal) (φ := .f32) CmpDirection.gt
      (x (Shape.Idx.along (s := S2048x8) (ix2 t (k.castLE (by decide : 2 ≤ 8))) 1 a))
      (x (Shape.Idx.along (s := S2048x8) (ix2 t (k.castLE (by decide : 2 ≤ 8))) 1 b)) == 1#1)) _) 1).val = _
    rw [hg]
    exact congrArg (fun i : S2048x8.Idx => BitVec.ofNat 32 (i 1).val) (along_col t _ _)

variable (x : Vec Ideal S1x2048x768 .f32) (g : Vec Ideal S8x768 .f32) (b : Vec Ideal S8 .f32)

/-- The probabilities of token `t`. -/
def tokenProb (t : Fin 2048) : Fin 8 → EReal :=
  prob (fun e k => g (ix2 e k)) (fun e => b (ix1 e)) (fun k => x (ix3 0 t k))

/-- The reference's softmax is the token's probabilities. -/
theorem v16_eq (t : Fin 2048) (e : Fin 8) : val_main_v16 (F := Ideal) x g b (ix2 t e) = tokenProb x g b t e := by
  have h5 : ∀ e : Fin 8, val_main_v5 (F := Ideal) x g b (ix2 t e) = ∑ k : Fin 768, x (ix3 0 t k) * g (ix2 e k) + b (ix1 e) := fun e => by
    pointwise [val_main_v5, val_main_v4, val_main_v3, val_main_v2, val_main_v1, val_main_v0]
  have h6 : val_main_v8 (F := Ideal) x g b (ix1 t) = max (Ideal.ofBits FTy.f32 4286578688#32)
      (Finset.univ.fold max (Ideal.ofBits FTy.f32 4286578688#32) (fun e : Fin 8 => val_main_v5 (F := Ideal) x g b (ix2 t e))) := by
    pointwise [val_main_v8, val_main_v7, val_main_v6, val_main_cst, val_main_cst_0]
  have h12 : ∀ e : Fin 8, val_main_v12 (F := Ideal) x g b (ix2 t e)
      = Ideal.exp (val_main_v5 (F := Ideal) x g b (ix2 t e) - val_main_v8 (F := Ideal) x g b (ix1 t)) := fun e => by
    pointwise [val_main_v12, val_main_v11, val_main_v10, val_main_v9]
  have h16 : val_main_v16 (F := Ideal) x g b (ix2 t e) = Ideal.div (val_main_v12 (F := Ideal) x g b (ix2 t e))
      (Ideal.ofBits FTy.f32 0#32 + ∑ e : Fin 8, val_main_v12 (F := Ideal) x g b (ix2 t e)) := by
    pointwise [val_main_v16, val_main_v15, val_main_v14, val_main_v13, val_main_cst_1]
  rw [h16, ofBits_zero, zero_add]
  simp only [h12, h6]
  rw [ofBits_bot, max_eq_right bot_le]
  simp only [h5]
  rfl

/-- A token's probabilities, as a row of the stage. -/
theorem v16_row (t : Fin 2048) : (fun e => val_main_v16 (F := Ideal) x g b (ix2 t e)) = tokenProb x g b t :=
  funext (v16_eq x g b t)

/-- The number that one comparison of experts' words gives. -/
theorem onehot (a e : Fin 8) :
    FloatOps.uitofp (F := Ideal) .f32 (IntOp.cmpi .eq (BitVec.ofNat 32 a.val) (BitVec.ofNat 32 e.val)) = if e = a then (1 : EReal) else 0 := by
  rw [cmpi_ofNat]
  by_cases h : e = a
  · rw [if_pos h, if_pos h.symm]
    show (((1#1 : BitVec 1).toNat : ℝ) : EReal) = 1
    simp
  · rw [if_neg h, if_neg (Ne.symm h)]
    show (((0#1 : BitVec 1).toNat : ℝ) : EReal) = 0
    simp

/-- The best expert, one-hot. -/
theorem v30_eq (t : Fin 2048) (e : Fin 8) :
    val_main_v30 (F := Ideal) x g b (ix2 t e) = if e = best (tokenProb x g b t) then (1 : EReal) else 0 := by
  have h : val_main_v30 (F := Ideal) x g b (ix2 t e)
      = FloatOps.uitofp (F := Ideal) .f32 (IntOp.cmpi .eq (val_main_indices (F := Ideal) x g b (ix2 t 0)) (BitVec.ofNat 32 e.val)) := by
    pointwise [val_main_v30, val_main_call0_v4, val_main_call0_v3, val_main_call0_v2, val_main_call0_v1, val_main_call0_v0, val_main_v29, val_main_v28]
  have hi : val_main_indices (F := Ideal) x g b (ix2 t 0) = BitVec.ofNat 32 (best (tokenProb x g b t)).val := by
    unfold val_main_indices
    rw [(topK_eq _ t 0).2, v16_row]
    rfl
  rw [h, hi, onehot]

/-- The second expert, one-hot. -/
theorem v39_eq (t : Fin 2048) (e : Fin 8) :
    val_main_v39 (F := Ideal) x g b (ix2 t e) = if e = second (tokenProb x g b t) then (1 : EReal) else 0 := by
  have h : val_main_v39 (F := Ideal) x g b (ix2 t e)
      = FloatOps.uitofp (F := Ideal) .f32 (IntOp.cmpi .eq (val_main_indices (F := Ideal) x g b (ix2 t 1)) (BitVec.ofNat 32 e.val)) := by
    pointwise [val_main_v39, val_main_call1_v4, val_main_call1_v3, val_main_call1_v2, val_main_call1_v1, val_main_call1_v0, val_main_v38, val_main_v37]
  have hi : val_main_indices (F := Ideal) x g b (ix2 t 1) = BitVec.ofNat 32 (second (tokenProb x g b t)).val := by
    unfold val_main_indices
    rw [(topK_eq _ t 1).2, v16_row]
    rfl
  rw [h, hi, onehot]

/-- A one-hot number times a value. -/
theorem onehot_mul (q : Prop) [Decidable q] (y : EReal) : (if q then (1 : EReal) else 0) * y = if q then y else 0 := by
  split
  · exact one_mul y
  · exact zero_mul y

/-- The reference's routing weights. -/
theorem v43_eq (t : Fin 2048) (e : Fin 8) : val_main_v43 (F := Ideal) x g b (ix2 t e) = weight (tokenProb x g b t) e := by
  have h : val_main_v43 (F := Ideal) x g b (ix2 t e)
      = Ideal.ofBits FTy.f32 0#32 + val_main_v30 (F := Ideal) x g b (ix2 t e) * val_main_values (F := Ideal) x g b (ix2 t 0)
        + val_main_v39 (F := Ideal) x g b (ix2 t e) * val_main_values (F := Ideal) x g b (ix2 t 1) := by
    pointwise [val_main_v43, val_main_v42, val_main_v41, val_main_v40, val_main_v34, val_main_v33, val_main_v32, val_main_v31, val_main_v26, val_main_cst_7]
  have h0 : val_main_values (F := Ideal) x g b (ix2 t 0) = tokenProb x g b t (best (tokenProb x g b t)) := by
    unfold val_main_values
    rw [(topK_eq _ t 0).1, v16_row, v16_eq]
    rfl
  have h1 : val_main_values (F := Ideal) x g b (ix2 t 1) = tokenProb x g b t (second (tokenProb x g b t)) := by
    unfold val_main_values
    rw [(topK_eq _ t 1).1, v16_row, v16_eq]
    rfl
  rw [h, h0, h1, v30_eq, v39_eq, ofBits_zero, zero_add, onehot_mul, onehot_mul]
  rfl

/-- How many tokens are routed to an expert. -/
theorem v45_eq (e : Fin 8) : val_main_v45 (F := Ideal) x g b (ix1 e) = ∑ t : Fin 2048, hit (tokenProb x g b t) e := by
  have h : val_main_v45 (F := Ideal) x g b (ix1 e)
      = Ideal.ofBits FTy.f32 0#32 + (Ideal.ofBits FTy.f32 0#32 + ∑ t : Fin 2048, val_main_v30 (F := Ideal) x g b (ix2 t e))
        + (Ideal.ofBits FTy.f32 0#32 + ∑ t : Fin 2048, val_main_v39 (F := Ideal) x g b (ix2 t e)) := by
    pointwise [val_main_v45, val_main_v44, val_main_v36, val_main_v35, val_main_v27, val_main_cst_8, val_main_cst_9, val_main_cst_10]
  rw [h, ofBits_zero, zero_add, zero_add, zero_add, ← Finset.sum_add_distrib]
  refine Finset.sum_congr rfl fun t _ => ?_
  rw [v30_eq, v39_eq]
  rfl

/-- The first result: each expert's output and bias, weighted. -/
theorem v60_eq (w : Vec Ideal S8x768x768 .f32) (eb : Vec Ideal S8x768 .f32) (t : Fin 2048) (d : Fin 768) :
    val_main_v60 (F := Ideal) x g b w eb (ix3 0 t d)
      = ∑ e : Fin 8, weight (tokenProb x g b t) e * (∑ k : Fin 768, x (ix3 0 t k) * w (ix3 e d k) + eb (ix2 e d)) := by
  have h : val_main_v60 (F := Ideal) x g b w eb (ix3 0 t d)
      = Ideal.ofBits FTy.f32 0#32 + ∑ e : Fin 8, (∑ k : Fin 768, x (ix3 0 t k) * w (ix3 e d k) + eb (ix2 e d))
        * val_main_v43 (F := Ideal) x g b (ix2 t e) := by
    pointwise [val_main_v60, val_main_v53, val_main_v52, val_main_v51, val_main_v50, val_main_v49, val_main_v48, val_main_v47, val_main_v46, val_main_v0, val_main_cst_11]
  rw [h, ofBits_zero, zero_add]
  refine Finset.sum_congr rfl fun e _ => ?_
  rw [v43_eq, mul_comm]

/-- The second result: the entropy's term and the experts' load. -/
theorem v61_eq : val_main_v61 (F := Ideal) x g b ix0
    = Ideal.ofBits FTy.f32 1028443341#32 * -(Ideal.div (∑ t : Fin 2048, ∑ e : Fin 8, plogp (tokenProb x g b t e)) (Ideal.ofBits FTy.f32 1157627904#32))
      + ∑ e : Fin 8, max (Ideal.div (∑ t : Fin 2048, hit (tokenProb x g b t) e) (Ideal.ofBits FTy.f32 1157627904#32)
        - Ideal.ofBits FTy.f32 1053609165#32) 0 := by
  have h20 : ∀ t e, val_main_v20 (F := Ideal) x g b (ix2 t e) = plogp (tokenProb x g b t e) := fun t e => by
    rw [← v16_eq]
    unfold plogp eps
    pointwise [val_main_v20, val_main_v19, val_main_v18, val_main_v17, val_main_cst_2]
  have h25 : val_main_v25 (F := Ideal) x g b ix0 = Ideal.ofBits FTy.f32 1028443341#32 * -(Ideal.div
      (Ideal.ofBits FTy.f32 0#32 + ∑ t : Fin 2048, (Ideal.ofBits FTy.f32 0#32 + ∑ e : Fin 8, val_main_v20 (F := Ideal) x g b (ix2 t e)))
      (Ideal.ofBits FTy.f32 1157627904#32)) := by
    pointwise [val_main_v25, val_main_v24, val_main_v23, val_main_v22, val_main_v21, val_main_cst_3, val_main_cst_4, val_main_cst_5, val_main_cst_6]
  have h59 : val_main_v59 (F := Ideal) x g b ix0 = Ideal.ofBits FTy.f32 0#32 + ∑ e : Fin 8,
      max (Ideal.div (val_main_v45 (F := Ideal) x g b (ix1 e)) (Ideal.ofBits FTy.f32 1157627904#32) - Ideal.ofBits FTy.f32 1053609165#32)
        (Ideal.ofBits FTy.f32 0#32) := by
    pointwise [val_main_v59, val_main_v58, val_main_call2_v0, val_main_v57, val_main_v56, val_main_v55, val_main_v54, val_main_cst_12, val_main_cst_13, val_main_cst_14, val_main_call2_cst]
  have h61 : val_main_v61 (F := Ideal) x g b ix0 = val_main_v25 (F := Ideal) x g b ix0 + val_main_v59 (F := Ideal) x g b ix0 := by
    pointwise [val_main_v61]
  rw [h61, h25, h59]
  simp only [h20, v45_eq, ofBits_zero, zero_add]

end Cert.ReferenceIdeal.Stages
-- ==== Proof.Results.lean ====
/- The kernel's two results are the reference's, where the tokens and the gate's weights and biases are finite. -/
module

public import proofs.«01_k».proof.Defs
public import proofs.«01_k».proof.Proof.KernelIdeal.Arrays
public import proofs.«01_k».proof.Proof.ReferenceIdeal.Stages
public import proofs.«01_k».proof.Proof.Gen.Pre_router_finite
public import Idealize.ShloMosaic.Lib.ReduceAll

@[expose] public section

set_option maxRecDepth 16384

noncomputable section

namespace Cert.Results

open Idealize.ShloMosaic Idealize.ShloMosaic.TcCoe Idealize.SL.Sem Cert.Router

/-! ## The precondition -/

/-- Two bits whose conjunction is one are one. -/
theorem andi_one {a b : BitVec 1} (h : IntOp.andi a b = 1#1) : a = 1#1 ∧ b = 1#1 := by
  revert a b; decide

/-- The bit pattern of infinity. -/
theorem ofBits_top : Ideal.ofBits FTy.f32 0x7F800000#32 = ⊤ := by simp [Ideal.ofBits, Ideal.ieee]

/-- An entry whose absolute value compares below infinity is real. -/
theorem isReal_of_cmp {x : EReal} (h : Ideal.cmp CmpFPredicate.olt (max x (-x)) (Ideal.ofBits FTy.f32 0x7F800000#32) = 1#1) : IsReal x := by
  refine isReal_of_abs ?_
  rw [ofBits_top] at h
  by_contra hn
  rw [show Ideal.cmp CmpFPredicate.olt (max x (-x)) ⊤ = BitVec.ofBool (decide (max x (-x) < ⊤)) from rfl, decide_eq_false hn] at h
  exact absurd h (by decide)

/-- The predicate's content: every token coordinate and every weight and bias of the gate is real. -/
theorem real_of_pre [Cert.Pre_router_finite.Facts] (x : FVec Ideal Cert.Pre_router_finite.S1x2048x768 .f32) (g : FVec Ideal Cert.Pre_router_finite.S8x768 .f32) (b : FVec Ideal Cert.Pre_router_finite.S8 .f32)
    (w : FVec Ideal Cert.Pre_router_finite.S8x768x768 .f32) (eb : FVec Ideal Cert.Pre_router_finite.S8x768 .f32)
    (h : Cert.Pre_router_finite.fn (F := Ideal) x g b w eb = fun _ => 1#1) :
    (∀ i, IsReal (x i)) ∧ (∀ i, IsReal (g i)) ∧ (∀ i, IsReal (b i)) := by
  have h0 := congrFun h ix0
  dsimp only [Cert.Pre_router_finite.fn] at h0
  obtain ⟨hxg, hb⟩ := andi_one h0
  obtain ⟨hx, hg⟩ := andi_one hxg
  haveI : Subsingleton Cert.Pre_router_finite.S_.Idx := ⟨fun a b => funext fun k => k.elim0⟩
  exact ⟨fun i => isReal_of_cmp (Host.reduce_andi_all _ _ _ _ _ hx i), fun i => isReal_of_cmp (Host.reduce_andi_all _ _ _ _ _ hg i),
    fun i => isReal_of_cmp (Host.reduce_andi_all _ _ _ _ _ hb i)⟩

open Cert.KernelIdeal Cert.KernelIdeal.Gen Cert.KernelIdeal.Hand Cert.KernelIdeal.Arrays

variable (m : (ℓ : Loc nD τ sig) → Buf (Elt Ideal) ℓ)

/-- The precondition of the claim makes the kernel's tokens and gate real on every device. -/
theorem realRouter (h : Cert.Pre_KernelIdeal_router_finite m) (c : Dev nD) : RealRouter m c :=
  have hr := real_of_pre _ _ _ _ _ (h c)
  ⟨fun t k => hr.1 (ix3 0 t k), fun e k => hr.2.1 (ix2 e k), fun e => hr.2.2 (ix1 e)⟩

/-! ## The two results -/

/-- What the kernel leaves in its first result. -/
def out0 (c : Dev nD) : Vec Ideal S1x2048x768 .f32 := shapeCast S1x2048x768 ((dats m 0 c).arrAt 4 cfg0.N : Vec Ideal S2048x768 .f32) shapeCasts_S2048x768_S1x2048x768

/-- What the kernel leaves in its second result. -/
def out1 (c : Dev nD) : Vec Ideal S_ .f32 := shapeCast S_ ((dats m 0 c).arrAt 5 cfg0.N : Vec Ideal S1x1 .f32) shapeCasts_S1x1_S_

/-- The reference's first result, of the kernel's arguments, is the kernel's first result. -/
theorem first_eq (c : Dev nD) (hr : RealRouter m c) :
    Cert.ReferenceIdeal.Read.val_main_v60 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = out0 m c := by
  funext i
  obtain ⟨t, d, rfl⟩ : ∃ (t : Fin 2048) (d : Fin 768), i = (ix3 0 t d : S1x2048x768.Idx) :=
    ⟨i 1, i 2, (eq_ix3 i).trans (congrArg (fun q : Fin 1 => (ix3 q (i 1) (i 2) : S1x2048x768.Idx)) (Subsingleton.elim (α := Fin 1) (i 0) 0))⟩
  exact (Cert.ReferenceIdeal.Stages.v60_eq _ _ _ _ _ t d).trans (first_result m c hr t d).symm

/-- The reference's second result, of the kernel's arguments, is the kernel's second result. -/
theorem second_eq (c : Dev nD) (hr : RealRouter m c) :
    Cert.ReferenceIdeal.Read.val_main_v61 (F := Ideal) (m ((c.tc : Thread nD τ).loc main_arg0)) (m ((c.tc : Thread nD τ).loc main_arg1))
      (m ((c.tc : Thread nD τ).loc main_arg2)) = out1 m c := by
  funext i
  obtain rfl : i = (ix0 : S_.Idx) := funext fun k => k.elim0
  exact (Cert.ReferenceIdeal.Stages.v61_eq _ _ _).trans (second_result m c hr).symm

/-- Where the tokens, the gate's weights and its biases are finite, both results of the kernel are the reference's. -/
theorem algebraic : Cert.algebraic_KernelIdeal_ReferenceIdeal_pre_router_finite := fun m g m' g' hpre hagree =>
  ⟨out0 m, out1 m, Cert.KernelIdeal.Arrays.run_results m g,
    (θ_run _ _ _).mono (fun _ h c => ⟨(h c).1.trans (by
        obtain ⟨h0, h1, h2, h3, h4⟩ := hagree c
        rw [Cert.ReferenceIdeal.Read.val_main_v60_eq, h0, h1, h2, h3, h4]
        exact first_eq m c (realRouter m hpre c)),
      (h c).2.1.trans (by
        obtain ⟨h0, h1, h2, h3, h4⟩ := hagree c
        rw [Cert.ReferenceIdeal.Read.val_main_v61_eq, h0, h1, h2]
        exact second_eq m c (realRouter m hpre c)), (h c).2.2⟩)
      (Cert.ReferenceIdeal.Value.run m' g')⟩

end Cert.Results

end
-- ==== Proof.lean ====
module

public import proofs.«01_k».proof.Defs
public import proofs.«01_k».proof.Proof.Kernel.Launch
public import proofs.«01_k».proof.Proof.KernelIdeal.Launch
public import proofs.«01_k».proof.Proof.Results
public import proofs.«01_k».proof.Proof.Gen.ReferenceIdeal.Read
public import proofs.«01_k».proof.Proof.Gen.Pre_router_finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference runs, leaves its arguments unchanged and every counter at zero. -/
theorem frame_reference : Cert.quiescent_ReferenceIdeal := fun m ρ _ =>
  (θ_run _ _ _).mono (fun _ h => ⟨fun c => (h c).2.2, sem_eq_zero_of_no_sems rfl _⟩) (Cert.ReferenceIdeal.Value.run m ρ)

/-- Every claim of the certificate. -/
theorem claim : Cert.Claim := ⟨Cert.Kernel.Gen.facts, Cert.KernelIdeal.Gen.facts, Cert.ReferenceIdeal.Gen.facts, Cert.Pre_router_finite.Gen.facts,
  fun m ρ _ => Cert.Kernel.Hand.frame m ρ, fun m ρ _ => Cert.KernelIdeal.Hand.frame m ρ, fun m ρ _ => Cert.KernelIdeal.Hand.frame m ρ, frame_reference, fun m ρ _ => frame_reference m ρ trivial, trivial, Cert.Results.algebraic⟩

end Cert.Proof

end
